-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_usable_inputs [hPre_usable_inputs : Cert.Pre_usable_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_usable_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_usable_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_usable_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_usable_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_usable_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_usable_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_usable_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_usable_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usable_inputs [hPre_usable_inputs : Cert.Pre_usable_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usable_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_usable_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_usable_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_usable_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_usable_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_usable_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_usable_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_usable_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_usable_inputs [hKernelIdeal : Cert.KernelIdeal.Facts] [hPre_usable_inputs : Cert.Pre_usable_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usable_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_usable_inputs [hReferenceIdeal : Cert.ReferenceIdeal.Facts] [hPre_usable_inputs : Cert.Pre_usable_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usable_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_usable_inputs [hKernelIdeal : Cert.KernelIdeal.Facts] [hReferenceIdeal : Cert.ReferenceIdeal.Facts] [hPre_usable_inputs : Cert.Pre_usable_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usable_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_usable_inputs : Cert.Pre_usable_inputs.Facts),
    quiescent_Kernel (hKernel := hKernel)
    ∧ quiescent_KernelIdeal (hKernelIdeal := hKernelIdeal)
    ∧ quiescent_KernelIdeal_pre_usable_inputs (hKernelIdeal := hKernelIdeal) (hPre_usable_inputs := hPre_usable_inputs)
    ∧ quiescent_ReferenceIdeal (hReferenceIdeal := hReferenceIdeal)
    ∧ quiescent_ReferenceIdeal_pre_usable_inputs (hReferenceIdeal := hReferenceIdeal) (hPre_usable_inputs := hPre_usable_inputs)
    ∧ preserves_Kernel_KernelIdeal
    ∧ algebraic_KernelIdeal_ReferenceIdeal_pre_usable_inputs (hKernelIdeal := hKernelIdeal) (hReferenceIdeal := hReferenceIdeal) (hPre_usable_inputs := hPre_usable_inputs)
-- ==== Pre_usable_inputs.lean ====
abbrev S16384x4x7x7 : Shape := ⟨4, ![16384, 4, 7, 7]⟩
abbrev S11x8 : Shape := ⟨2, ![11, 8]⟩
abbrev S6x8 : Shape := ⟨2, ![6, 8]⟩
abbrev S3x8 : Shape := ⟨2, ![3, 8]⟩
abbrev S4x8 : Shape := ⟨2, ![4, 8]⟩
abbrev S1024x1568 : Shape := ⟨2, ![1024, 1568]⟩
abbrev S1024 : Shape := ⟨1, ![1024]⟩
abbrev S512x1024 : Shape := ⟨2, ![512, 1024]⟩
abbrev S512 : Shape := ⟨1, ![512]⟩
abbrev S_ : Shape := ⟨0, ![]⟩

class Facts : Prop where
  bcast_S_S16384x4x7x7 : S_.BroadcastsInDim S16384x4x7x7 (![] : Fin 0 → Fin S16384x4x7x7.rank)
  slices_S11x8_S3x8_0_0 : S11x8.Slices ![0, 0] S3x8
  bcast_S_S3x8 : S_.BroadcastsInDim S3x8 (![] : Fin 0 → Fin S3x8.rank)
  slices_S6x8_S3x8_0_0 : S6x8.Slices ![0, 0] S3x8
  slices_S4x8_S3x8_0_0 : S4x8.Slices ![0, 0] S3x8
  bcast_S_S1024x1568 : S_.BroadcastsInDim S1024x1568 (![] : Fin 0 → Fin S1024x1568.rank)
  bcast_S_S1024 : S_.BroadcastsInDim S1024 (![] : Fin 0 → Fin S1024.rank)

variable [Facts]

def fn_part1 {F : FTy → Type} [FloatOps F] (main_arg5 : FVec F S1024x1568 .f32) (main_arg6 : FVec F S1024 .f32) (main_arg7 : FVec F S1024 .f32) (main_v4 : IVec S16384x4x7x7 1) (main_v8 : IVec S3x8 1) (main_v12 : IVec S3x8 1) (main_v15 : IVec S3x8 1) (main_v17 : FVec F S3x8 .f32) (main_cst_3 : FVec F S_ .f32) : IVec S16384x4x7x7 1 × IVec S3x8 1 × IVec S3x8 1 × IVec S3x8 1 × IVec S3x8 1 × IVec S1024x1568 1 × IVec S1024 1 × IVec S1024 1 :=
  let main_v18 : FVec F S3x8 .f32 := broadcastInDim S3x8 ![] bcast_S_S3x8 main_cst_3
  let main_v19 : IVec S3x8 1 := cmpf .olt main_v17 main_v18
  let main_v20 : FVec F S1024x1568 .f32 := Host.absf main_arg5
  let main_cst_4 : FVec F S_ .f32 := constant S_ .f32 0x7F800000#32
  let main_v21 : FVec F S1024x1568 .f32 := broadcastInDim S1024x1568 ![] bcast_S_S1024x1568 main_cst_4
  let main_v22 : IVec S1024x1568 1 := cmpf .olt main_v20 main_v21
  let main_v23 : FVec F S1024 .f32 := Host.absf main_arg6
  let main_cst_5 : FVec F S_ .f32 := constant S_ .f32 0x7F800000#32
  let main_v24 : FVec F S1024 .f32 := broadcastInDim S1024 ![] bcast_S_S1024 main_cst_5
  let main_v25 : IVec S1024 1 := cmpf .olt main_v23 main_v24
  let main_v26 : FVec F S1024 .f32 := Host.absf main_arg7
  let main_cst_6 : FVec F S_ .f32 := constant S_ .f32 0x7F800000#32
  let main_v27 : FVec F S1024 .f32 := broadcastInDim S1024 ![] bcast_S_S1024 main_cst_6
  let main_v28 : IVec S1024 1 := cmpf .olt main_v26 main_v27
  (main_v4, main_v8, main_v12, main_v15, main_v19, main_v22, main_v25, main_v28)

def fn {F : FTy → Type} [FloatOps F] (main_arg0 : IVec S16384x4x7x7 32) (main_arg1 : FVec F S11x8 .f32) (main_arg2 : FVec F S6x8 .f32) (main_arg3 : FVec F S3x8 .f32) (main_arg4 : FVec F S4x8 .f32) (main_arg5 : FVec F S1024x1568 .f32) (main_arg6 : FVec F S1024 .f32) (main_arg7 : FVec F S1024 .f32) (main_arg8 : FVec F S1024 .f32) (main_arg9 : FVec F S512x1024 .f32) (main_arg10 : FVec F S512 .f32) : IVec S16384x4x7x7 1 × IVec S3x8 1 × IVec S3x8 1 × IVec S3x8 1 × IVec S3x8 1 × IVec S1024x1568 1 × IVec S1024 1 × IVec S1024 1 :=
  let main_c : IVec S_ 32 := constantI S_ 32 0#32
  let main_v0 : IVec S16384x4x7x7 32 := broadcastInDim S16384x4x7x7 ![] bcast_S_S16384x4x7x7 main_c
  let main_v1 : IVec S16384x4x7x7 1 := cmpi .sge main_arg0 main_v0
  let main_c_0 : IVec S_ 32 := constantI S_ 32 2#32
  let main_v2 : IVec S16384x4x7x7 32 := broadcastInDim S16384x4x7x7 ![] bcast_S_S16384x4x7x7 main_c_0
  let main_v3 : IVec S16384x4x7x7 1 := cmpi .sle main_arg0 main_v2
  let main_v4 : IVec S16384x4x7x7 1 := andi main_v1 main_v3
  let main_v5 : FVec F S3x8 .f32 := (extractStridedSlice S3x8 ![0, 0] · slices_S11x8_S3x8_0_0) main_arg1
  let main_v6 : FVec F S3x8 .f32 := Host.absf main_v5
  let main_cst : FVec F S_ .f32 := constant S_ .f32 0x7F800000#32
  let main_v7 : FVec F S3x8 .f32 := broadcastInDim S3x8 ![] bcast_S_S3x8 main_cst
  let main_v8 : IVec S3x8 1 := cmpf .olt main_v6 main_v7
  let main_v9 : FVec F S3x8 .f32 := (extractStridedSlice S3x8 ![0, 0] · slices_S6x8_S3x8_0_0) main_arg2
  let main_v10 : FVec F S3x8 .f32 := Host.absf main_v9
  let main_cst_1 : FVec F S_ .f32 := constant S_ .f32 0x7F800000#32
  let main_v11 : FVec F S3x8 .f32 := broadcastInDim S3x8 ![] bcast_S_S3x8 main_cst_1
  let main_v12 : IVec S3x8 1 := cmpf .olt main_v10 main_v11
  let main_v13 : FVec F S3x8 .f32 := Host.absf main_arg3
  let main_cst_2 : FVec F S_ .f32 := constant S_ .f32 0x7F800000#32
  let main_v14 : FVec F S3x8 .f32 := broadcastInDim S3x8 ![] bcast_S_S3x8 main_cst_2
  let main_v15 : IVec S3x8 1 := cmpf .olt main_v13 main_v14
  let main_v16 : FVec F S3x8 .f32 := (extractStridedSlice S3x8 ![0, 0] · slices_S4x8_S3x8_0_0) main_arg4
  let main_v17 : FVec F S3x8 .f32 := Host.absf main_v16
  let main_cst_3 : FVec F S_ .f32 := constant S_ .f32 0x7F800000#32
  fn_part1 (F := F) main_arg5 main_arg6 main_arg7 main_v4 main_v8 main_v12 main_v15 main_v17 main_cst_3
-- ==== Kernel.lean ====
abbrev S16384x4x7x7 : Shape := ⟨4, ![16384, 4, 7, 7]⟩
abbrev S11x8 : Shape := ⟨2, ![11, 8]⟩
abbrev S6x8 : Shape := ⟨2, ![6, 8]⟩
abbrev S3x8 : Shape := ⟨2, ![3, 8]⟩
abbrev S4x8 : Shape := ⟨2, ![4, 8]⟩
abbrev S1024x1568 : Shape := ⟨2, ![1024, 1568]⟩
abbrev S1024 : Shape := ⟨1, ![1024]⟩
abbrev S512x1024 : Shape := ⟨2, ![512, 1024]⟩
abbrev S512 : Shape := ⟨1, ![512]⟩
abbrev S4 : Shape := ⟨1, ![4]⟩
abbrev S1x3x8 : Shape := ⟨3, ![1, 3, 8]⟩
abbrev S4x3x8 : Shape := ⟨3, ![4, 3, 8]⟩
abbrev S_ : Shape := ⟨0, ![]⟩
abbrev S4x4x8 : Shape := ⟨3, ![4, 4, 8]⟩
abbrev S4x4 : Shape := ⟨2, ![4, 4]⟩
abbrev S4x1 : Shape := ⟨2, ![4, 1]⟩
abbrev S4x4x8x1 : Shape := ⟨4, ![4, 4, 8, 1]⟩
abbrev S4x1x1x4 : Shape := ⟨4, ![4, 1, 1, 4]⟩
abbrev S4x4x8x4 : Shape := ⟨4, ![4, 4, 8, 4]⟩
abbrev S8x4x4x4 : Shape := ⟨4, ![8, 4, 4, 4]⟩
abbrev S32x16 : Shape := ⟨2, ![32, 16]⟩
abbrev S32x32 : Shape := ⟨2, ![32, 32]⟩
abbrev S640 : Shape := ⟨1, ![640]⟩
abbrev S1x640 : Shape := ⟨2, ![1, 640]⟩
abbrev S6x640 : Shape := ⟨2, ![6, 640]⟩
abbrev S8x640 : Shape := ⟨2, ![8, 640]⟩
abbrev S1x1024 : Shape := ⟨2, ![1, 1024]⟩
abbrev S8x1024 : Shape := ⟨2, ![8, 1024]⟩
abbrev S16384x1024 : Shape := ⟨2, ![16384, 1024]⟩
abbrev S1024x4x7x7 : Shape := ⟨4, ![1024, 4, 7, 7]⟩
abbrev S1024x1024 : Shape := ⟨2, ![1024, 1024]⟩
abbrev S1568x640 : Shape := ⟨2, ![1568, 640]⟩
abbrev S1024x640 : Shape := ⟨2, ![1024, 640]⟩
abbrev S32x640 : Shape := ⟨2, ![32, 640]⟩
abbrev S32x1 : Shape := ⟨2, ![32, 1]⟩
abbrev S49x1x640 : Shape := ⟨3, ![49, 1, 640]⟩
abbrev S1x1x640 : Shape := ⟨3, ![1, 1, 640]⟩
abbrev S1x32x640 : Shape := ⟨3, ![1, 32, 640]⟩
abbrev S49x32x640 : Shape := ⟨3, ![49, 32, 640]⟩
abbrev S1024x196 : Shape := ⟨2, ![1024, 196]⟩
abbrev S1024x52 : Shape := ⟨2, ![1024, 52]⟩
abbrev S6x1024 : Shape := ⟨2, ![6, 1024]⟩
abbrev S1x512 : Shape := ⟨2, ![1, 512]⟩
abbrev S7x512 : Shape := ⟨2, ![7, 512]⟩
abbrev S8x512 : Shape := ⟨2, ![8, 512]⟩
abbrev S16384x512 : Shape := ⟨2, ![16384, 512]⟩
abbrev S2048x1024 : Shape := ⟨2, ![2048, 1024]⟩
abbrev S2048x512 : Shape := ⟨2, ![2048, 512]⟩

abbrev nBuf : Space → Nat
  | .hbm => 160
  | .vmem => 20
  | .smem => 0
  | _ => 0

abbrev hbmTy0_0 (i : Nat) : BufTy := match i % 128 with
  | 0 => ⟨S16384x4x7x7, .i32⟩
  | 1 => ⟨S11x8, .f32⟩
  | 2 => ⟨S6x8, .f32⟩
  | 3 => ⟨S3x8, .f32⟩
  | 4 => ⟨S4x8, .f32⟩
  | 5 => ⟨S1024x1568, .f32⟩
  | 6 => ⟨S1024, .f32⟩
  | 7 => ⟨S1024, .f32⟩
  | 8 => ⟨S1024, .f32⟩
  | 9 => ⟨S512x1024, .f32⟩
  | 10 => ⟨S512, .f32⟩
  | 11 => ⟨S4, .i32⟩
  | 12 => ⟨S3x8, .f32⟩
  | 13 => ⟨S3x8, .f32⟩
  | 14 => ⟨S3x8, .f32⟩
  | 15 => ⟨S1x3x8, .f32⟩
  | 16 => ⟨S1x3x8, .f32⟩
  | 17 => ⟨S1x3x8, .f32⟩
  | 18 => ⟨S1x3x8, .f32⟩
  | 19 => ⟨S4x3x8, .f32⟩
  | 20 => ⟨S_, .i32⟩
  | 21 => ⟨S_, .f32⟩
  | 22 => ⟨S4x4x8, .f32⟩
  | 23 => ⟨S4x4, .i32⟩
  | 24 => ⟨S4x4, .i32⟩
  | 25 => ⟨S_, .i32⟩
  | 26 => ⟨S4x4, .i32⟩
  | 27 => ⟨S4x4, .i32⟩
  | 28 => ⟨S4x4, .i1⟩
  | 29 => ⟨S4x4, .f32⟩
  | 30 => ⟨S_, .i32⟩
  | 31 => ⟨S4, .i32⟩
  | 32 => ⟨S4, .i1⟩
  | 33 => ⟨S_, .i32⟩
  | 34 => ⟨S4, .i32⟩
  | 35 => ⟨S4, .i32⟩
  | 36 => ⟨S4, .i32⟩
  | 37 => ⟨S4x1, .i32⟩
  | 38 => ⟨S4x4, .f32⟩
  | 39 => ⟨S4x4x8x1, .f32⟩
  | 40 => ⟨S4x1x1x4, .f32⟩
  | 41 => ⟨S4x4x8x4, .f32⟩
  | 42 => ⟨S4x4x8x4, .f32⟩
  | 43 => ⟨S4x4x8x4, .f32⟩
  | 44 => ⟨S8x4x4x4, .f32⟩
  | 45 => ⟨S32x16, .f32⟩
  | 46 => ⟨S_, .i32⟩
  | 47 => ⟨S_, .f32⟩
  | 48 => ⟨S32x32, .f32⟩
  | 49 => ⟨S640, .i32⟩
  | 50 => ⟨S_, .i32⟩
  | 51 => ⟨S640, .i32⟩
  | 52 => ⟨S640, .i1⟩
  | 53 => ⟨S_, .i32⟩
  | 54 => ⟨S_, .i32⟩
  | 55 => ⟨S640, .i32⟩
  | 56 => ⟨S640, .i32⟩
  | 57 => ⟨S640, .i32⟩
  | 58 => ⟨S_, .i32⟩
  | 59 => ⟨S640, .i32⟩
  | 60 => ⟨S640, .i1⟩
  | 61 => ⟨S640, .i32⟩
  | 62 => ⟨S640, .i32⟩
  | 63 => ⟨S_, .i32⟩
  | 64 => ⟨S640, .i32⟩
  | 65 => ⟨S640, .i1⟩
  | 66 => ⟨S640, .i1⟩
  | 67 => ⟨S_, .i32⟩
  | 68 => ⟨S640, .i32⟩
  | 69 => ⟨S640, .i32⟩
  | 70 => ⟨S640, .i32⟩
  | 71 => ⟨S_, .i32⟩
  | 72 => ⟨S640, .i32⟩
  | 73 => ⟨S640, .i32⟩
  | 74 => ⟨S_, .i32⟩
  | 75 => ⟨S_, .i32⟩
  | 76 => ⟨S640, .i32⟩
  | 77 => ⟨S640, .i32⟩
  | 78 => ⟨S640, .i32⟩
  | 79 => ⟨S_, .i32⟩
  | 80 => ⟨S640, .i32⟩
  | 81 => ⟨S640, .i1⟩
  | 82 => ⟨S640, .i32⟩
  | 83 => ⟨S640, .i32⟩
  | 84 => ⟨S_, .i32⟩
  | 85 => ⟨S640, .i32⟩
  | 86 => ⟨S640, .i1⟩
  | 87 => ⟨S640, .i1⟩
  | 88 => ⟨S_, .i32⟩
  | 89 => ⟨S640, .i32⟩
  | 90 => ⟨S640, .i32⟩
  | 91 => ⟨S640, .i32⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S640, .i32⟩
  | 99 => ⟨S640, .i32⟩
  | 100 => ⟨S_, .i32⟩
  | 101 => ⟨S640, .i32⟩
  | 102 => ⟨S640, .i1⟩
  | 103 => ⟨S_, .i32⟩
  | 104 => ⟨S640, .i32⟩
  | 105 => ⟨S640, .i1⟩
  | 106 => ⟨S_, .i32⟩
  | 107 => ⟨S_, .i1⟩
  | 108 => ⟨S640, .i1⟩
  | 109 => ⟨S640, .i1⟩
  | 110 => ⟨S640, .i1⟩
  | 111 => ⟨S640, .i32⟩
  | 112 => ⟨S640, .i32⟩
  | 113 => ⟨S640, .i32⟩
  | 114 => ⟨S640, .i32⟩
  | 115 => ⟨S_, .i32⟩
  | 116 => ⟨S_, .i32⟩
  | 117 => ⟨S640, .i32⟩
  | 118 => ⟨S640, .i32⟩
  | 119 => ⟨S1x640, .i32⟩
  | 120 => ⟨S_, .i32⟩
  | 121 => ⟨S_, .i32⟩
  | 122 => ⟨S_, .i32⟩
  | 123 => ⟨S_, .i1⟩
  | 124 => ⟨S_, .i32⟩
  | 125 => ⟨S_, .i32⟩
  | 126 => ⟨S640, .i32⟩
  | 127 => ⟨S640, .i32⟩
  | _ => ⟨S16384x4x7x7, .i32⟩

abbrev hbmTy0_1 (i : Nat) : BufTy := match i % 128 with
  | 0 => ⟨S_, .i32⟩
  | 1 => ⟨S640, .i32⟩
  | 2 => ⟨S640, .i1⟩
  | 3 => ⟨S_, .i32⟩
  | 4 => ⟨S640, .i32⟩
  | 5 => ⟨S640, .i1⟩
  | 6 => ⟨S_, .i32⟩
  | 7 => ⟨S_, .i1⟩
  | 8 => ⟨S640, .i1⟩
  | 9 => ⟨S640, .i1⟩
  | 10 => ⟨S640, .i1⟩
  | 11 => ⟨S640, .i32⟩
  | 12 => ⟨S640, .i32⟩
  | 13 => ⟨S640, .i32⟩
  | 14 => ⟨S1x640, .i32⟩
  | 15 => ⟨S_, .i32⟩
  | 16 => ⟨S6x640, .i32⟩
  | 17 => ⟨S8x640, .i32⟩
  | 18 => ⟨S1x1024, .f32⟩
  | 19 => ⟨S8x1024, .f32⟩
  | 20 => ⟨S16384x1024, .bf16⟩
  | 21 => ⟨S8x1024, .f32⟩
  | 22 => ⟨S1x1024, .f32⟩
  | 23 => ⟨S1x1024, .f32⟩
  | 24 => ⟨S_, .f32⟩
  | 25 => ⟨S6x1024, .f32⟩
  | 26 => ⟨S8x1024, .f32⟩
  | 27 => ⟨S1x512, .f32⟩
  | 28 => ⟨S_, .f32⟩
  | 29 => ⟨S7x512, .f32⟩
  | 30 => ⟨S8x512, .f32⟩
  | 31 => ⟨S16384x512, .f32⟩
  | _ => ⟨S16384x4x7x7, .i32⟩

abbrev hbmTy (i : Nat) : BufTy := match i / 128 with
  | 0 => hbmTy0_0 i
  | 1 => hbmTy0_1 i
  | _ => ⟨S16384x4x7x7, .i32⟩

abbrev bufTy : (tb : Table) → Fin (tcTables nBuf tb) → BufTy
  | .hbm, ⟨i, _⟩ => hbmTy i
  | .local _ .vmem, ⟨0, _⟩ => ⟨S1024x4x7x7, .i32⟩
  | .local _ .vmem, ⟨1, _⟩ => ⟨S1024x4x7x7, .i32⟩
  | .local _ .vmem, ⟨2, _⟩ => ⟨S32x32, .f32⟩
  | .local _ .vmem, ⟨3, _⟩ => ⟨S8x640, .i32⟩
  | .local _ .vmem, ⟨4, _⟩ => ⟨S1024x1568, .f32⟩
  | .local _ .vmem, ⟨5, _⟩ => ⟨S8x1024, .f32⟩
  | .local _ .vmem, ⟨6, _⟩ => ⟨S1024x1024, .bf16⟩
  | .local _ .vmem, ⟨7, _⟩ => ⟨S1024x1024, .bf16⟩
  | .local _ .vmem, ⟨8, _⟩ => ⟨S8x1024, .f32⟩
  | .local _ .vmem, ⟨9, _⟩ => ⟨S1568x640, .f32⟩
  | .local _ .vmem, ⟨10, _⟩ => ⟨S1024x640, .bf16⟩
  | .local _ .vmem, ⟨11, _⟩ => ⟨S2048x1024, .bf16⟩
  | .local _ .vmem, ⟨12, _⟩ => ⟨S2048x1024, .bf16⟩
  | .local _ .vmem, ⟨13, _⟩ => ⟨S8x1024, .f32⟩
  | .local _ .vmem, ⟨14, _⟩ => ⟨S8x1024, .f32⟩
  | .local _ .vmem, ⟨15, _⟩ => ⟨S512x1024, .f32⟩
  | .local _ .vmem, ⟨16, _⟩ => ⟨S8x512, .f32⟩
  | .local _ .vmem, ⟨17, _⟩ => ⟨S2048x512, .f32⟩
  | .local _ .vmem, ⟨18, _⟩ => ⟨S2048x512, .f32⟩
  | .local _ .vmem, ⟨19, _⟩ => ⟨S512x1024, .bf16⟩
  | _, _ => ⟨S16384x4x7x7, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_call0_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_4 : Ref sig .tc := ⟨.hbm, 46, rfl⟩
abbrev main_call1_v0 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_c : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_0 : Ref sig .tc := ⟨.hbm, 67, rfl⟩
abbrev main_call2_v12 : Ref sig .tc := ⟨.hbm, 68, rfl⟩
abbrev main_call2_v13 : Ref sig .tc := ⟨.hbm, 69, rfl⟩
abbrev main_v33 : Ref sig .tc := ⟨.hbm, 70, rfl⟩
abbrev main_c_7 : Ref sig .tc := ⟨.hbm, 71, rfl⟩
abbrev main_v34 : Ref sig .tc := ⟨.hbm, 72, rfl⟩
abbrev main_v35 : Ref sig .tc := ⟨.hbm, 73, rfl⟩
abbrev main_c_8 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_v5 : Ref sig .tc := ⟨.hbm, 80, rfl⟩
abbrev main_call3_v6 : Ref sig .tc := ⟨.hbm, 81, rfl⟩
abbrev main_call3_v7 : Ref sig .tc := ⟨.hbm, 82, rfl⟩
abbrev main_call3_v8 : Ref sig .tc := ⟨.hbm, 83, rfl⟩
abbrev main_call3_c : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_call3_c_0 : Ref sig .tc := ⟨.hbm, 88, rfl⟩
abbrev main_call3_v12 : Ref sig .tc := ⟨.hbm, 89, rfl⟩
abbrev main_call3_v13 : Ref sig .tc := ⟨.hbm, 90, rfl⟩
abbrev main_v36 : Ref sig .tc := ⟨.hbm, 91, rfl⟩
abbrev main_c_9 : Ref sig .tc := ⟨.hbm, 92, rfl⟩
abbrev main_call4_v0 : Ref sig .tc := ⟨.hbm, 93, rfl⟩
abbrev main_call4_c : Ref sig .tc := ⟨.hbm, 94, rfl⟩
abbrev main_call4_v1 : Ref sig .tc := ⟨.hbm, 95, rfl⟩
abbrev main_call4_c_0 : Ref sig .tc := ⟨.hbm, 96, rfl⟩
abbrev main_call4_v2 : Ref sig .tc := ⟨.hbm, 97, rfl⟩
abbrev main_call4_v3 : Ref sig .tc := ⟨.hbm, 98, rfl⟩
abbrev main_call4_v4 : Ref sig .tc := ⟨.hbm, 99, rfl⟩
abbrev main_call4_c_1 : Ref sig .tc := ⟨.hbm, 100, rfl⟩
abbrev main_call4_v5 : Ref sig .tc := ⟨.hbm, 101, rfl⟩
abbrev main_call4_v6 : Ref sig .tc := ⟨.hbm, 102, rfl⟩
abbrev main_call4_c_2 : Ref sig .tc := ⟨.hbm, 103, rfl⟩
abbrev main_call4_v7 : Ref sig .tc := ⟨.hbm, 104, rfl⟩
abbrev main_call4_v8 : Ref sig .tc := ⟨.hbm, 105, rfl⟩
abbrev main_call4_c_3 : Ref sig .tc := ⟨.hbm, 106, rfl⟩
abbrev main_call4_v9 : Ref sig .tc := ⟨.hbm, 107, rfl⟩
abbrev main_call4_v10 : Ref sig .tc := ⟨.hbm, 108, rfl⟩
abbrev main_call4_v11 : Ref sig .tc := ⟨.hbm, 109, rfl⟩
abbrev main_call4_v12 : Ref sig .tc := ⟨.hbm, 110, rfl⟩
abbrev main_call4_v13 : Ref sig .tc := ⟨.hbm, 111, rfl⟩
abbrev main_call4_v14 : Ref sig .tc := ⟨.hbm, 112, rfl⟩
abbrev main_v37 : Ref sig .tc := ⟨.hbm, 113, rfl⟩
abbrev main_v38 : Ref sig .tc := ⟨.hbm, 114, rfl⟩
abbrev main_c_10 : Ref sig .tc := ⟨.hbm, 115, rfl⟩
abbrev main_call5_v0 : Ref sig .tc := ⟨.hbm, 116, rfl⟩
abbrev main_call5_v1 : Ref sig .tc := ⟨.hbm, 117, rfl⟩
abbrev main_v39 : Ref sig .tc := ⟨.hbm, 118, rfl⟩
abbrev main_v40 : Ref sig .tc := ⟨.hbm, 119, rfl⟩
abbrev main_c_11 : Ref sig .tc := ⟨.hbm, 120, rfl⟩
abbrev main_call6_v0 : Ref sig .tc := ⟨.hbm, 121, rfl⟩
abbrev main_call6_c : Ref sig .tc := ⟨.hbm, 122, rfl⟩
abbrev main_call6_v1 : Ref sig .tc := ⟨.hbm, 123, rfl⟩
abbrev main_call6_c_0 : Ref sig .tc := ⟨.hbm, 124, rfl⟩
abbrev main_call6_v2 : Ref sig .tc := ⟨.hbm, 125, rfl⟩
abbrev main_call6_v3 : Ref sig .tc := ⟨.hbm, 126, rfl⟩
abbrev main_call6_v4 : Ref sig .tc := ⟨.hbm, 127, rfl⟩
abbrev main_call6_c_1 : Ref sig .tc := ⟨.hbm, 128, rfl⟩
abbrev main_call6_v5 : Ref sig .tc := ⟨.hbm, 129, rfl⟩
abbrev main_call6_v6 : Ref sig .tc := ⟨.hbm, 130, rfl⟩
abbrev main_call6_c_2 : Ref sig .tc := ⟨.hbm, 131, rfl⟩
abbrev main_call6_v7 : Ref sig .tc := ⟨.hbm, 132, rfl⟩
abbrev main_call6_v8 : Ref sig .tc := ⟨.hbm, 133, rfl⟩
abbrev main_call6_c_3 : Ref sig .tc := ⟨.hbm, 134, rfl⟩
abbrev main_call6_v9 : Ref sig .tc := ⟨.hbm, 135, rfl⟩
abbrev main_call6_v10 : Ref sig .tc := ⟨.hbm, 136, rfl⟩
abbrev main_call6_v11 : Ref sig .tc := ⟨.hbm, 137, rfl⟩
abbrev main_call6_v12 : Ref sig .tc := ⟨.hbm, 138, rfl⟩
abbrev main_call6_v13 : Ref sig .tc := ⟨.hbm, 139, rfl⟩
abbrev main_call6_v14 : Ref sig .tc := ⟨.hbm, 140, rfl⟩
abbrev main_v41 : Ref sig .tc := ⟨.hbm, 141, rfl⟩
abbrev main_v42 : Ref sig .tc := ⟨.hbm, 142, rfl⟩
abbrev main_c_12 : Ref sig .tc := ⟨.hbm, 143, rfl⟩
abbrev main_v43 : Ref sig .tc := ⟨.hbm, 144, rfl⟩
abbrev main_v44 : Ref sig .tc := ⟨.hbm, 145, rfl⟩
abbrev main_v45 : Ref sig .tc := ⟨.hbm, 146, rfl⟩
abbrev main_v46 : Ref sig .tc := ⟨.hbm, 147, rfl⟩
abbrev main_v47_0 : Ref sig .tc := ⟨.hbm, 148, rfl⟩
abbrev main_v47_1 : Ref sig .tc := ⟨.hbm, 149, rfl⟩
abbrev main_v48 : Ref sig .tc := ⟨.hbm, 150, rfl⟩
abbrev main_v49 : Ref sig .tc := ⟨.hbm, 151, rfl⟩
abbrev main_cst : Ref sig .tc := ⟨.hbm, 152, rfl⟩
abbrev main_v50 : Ref sig .tc := ⟨.hbm, 153, rfl⟩
abbrev main_v51 : Ref sig .tc := ⟨.hbm, 154, rfl⟩
abbrev main_v52 : Ref sig .tc := ⟨.hbm, 155, rfl⟩
abbrev main_cst_13 : Ref sig .tc := ⟨.hbm, 156, rfl⟩
abbrev main_v53 : Ref sig .tc := ⟨.hbm, 157, rfl⟩
abbrev main_v54 : Ref sig .tc := ⟨.hbm, 158, rfl⟩
abbrev main_v55 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x4x7x7 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x640 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1568 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S16384x4x7x7 : Shape := ⟨4, ![16384, 4, 7, 7]⟩
abbrev S11x8 : Shape := ⟨2, ![11, 8]⟩
abbrev S6x8 : Shape := ⟨2, ![6, 8]⟩
abbrev S3x8 : Shape := ⟨2, ![3, 8]⟩
abbrev S4x8 : Shape := ⟨2, ![4, 8]⟩
abbrev S1024x1568 : Shape := ⟨2, ![1024, 1568]⟩
abbrev S1024 : Shape := ⟨1, ![1024]⟩
abbrev S512x1024 : Shape := ⟨2, ![512, 1024]⟩
abbrev S512 : Shape := ⟨1, ![512]⟩
abbrev S16384x1x7x7 : Shape := ⟨4, ![16384, 1, 7, 7]⟩
abbrev S16384x7x7 : Shape := ⟨3, ![16384, 7, 7]⟩
abbrev S_ : Shape := ⟨0, ![]⟩
abbrev S16384x7x7x1 : Shape := ⟨4, ![16384, 7, 7, 1]⟩
abbrev S1 : Shape := ⟨1, ![1]⟩
abbrev S1x1x1x1 : Shape := ⟨4, ![1, 1, 1, 1]⟩
abbrev S16384x7x7x8 : Shape := ⟨4, ![16384, 7, 7, 8]⟩
abbrev S16384x7x7x8x1 : Shape := ⟨5, ![16384, 7, 7, 8, 1]⟩
abbrev S16384x7x7x8x4 : Shape := ⟨5, ![16384, 7, 7, 8, 4]⟩
abbrev S16384x1568 : Shape := ⟨2, ![16384, 1568]⟩
abbrev S1568x1024 : Shape := ⟨2, ![1568, 1024]⟩
abbrev S16384x1024 : Shape := ⟨2, ![16384, 1024]⟩
abbrev S1x1024 : Shape := ⟨2, ![1, 1024]⟩
abbrev S1024x512 : Shape := ⟨2, ![1024, 512]⟩
abbrev S16384x512 : Shape := ⟨2, ![16384, 512]⟩
abbrev S1x512 : Shape := ⟨2, ![1, 512]⟩

abbrev nBuf : Space → Nat
  | .hbm => 171
  | .vmem => 0
  | .smem => 0
  | _ => 0

abbrev hbmTy0_0 (i : Nat) : BufTy := match i % 128 with
  | 0 => ⟨S16384x4x7x7, .i32⟩
  | 1 => ⟨S11x8, .f32⟩
  | 2 => ⟨S6x8, .f32⟩
  | 3 => ⟨S3x8, .f32⟩
  | 4 => ⟨S4x8, .f32⟩
  | 5 => ⟨S1024x1568, .f32⟩
  | 6 => ⟨S1024, .f32⟩
  | 7 => ⟨S1024, .f32⟩
  | 8 => ⟨S1024, .f32⟩
  | 9 => ⟨S512x1024, .f32⟩
  | 10 => ⟨S512, .f32⟩
  | 11 => ⟨S16384x1x7x7, .i32⟩
  | 12 => ⟨S16384x7x7, .i32⟩
  | 13 => ⟨S_, .i32⟩
  | 14 => ⟨S16384x7x7, .i32⟩
  | 15 => ⟨S16384x7x7, .i1⟩
  | 16 => ⟨S_, .i32⟩
  | 17 => ⟨S16384x7x7, .i32⟩
  | 18 => ⟨S16384x7x7, .i32⟩
  | 19 => ⟨S16384x7x7, .i32⟩
  | 20 => ⟨S16384x7x7x1, .i32⟩
  | 21 => ⟨S1, .i32⟩
  | 22 => ⟨S_, .i32⟩
  | 23 => ⟨S16384x7x7x1, .i32⟩
  | 24 => ⟨S16384x7x7x1, .i1⟩
  | 25 => ⟨S1x1x1x1, .i32⟩
  | 26 => ⟨S16384x7x7x1, .i32⟩
  | 27 => ⟨S16384x7x7x1, .i1⟩
  | 28 => ⟨S16384x7x7x1, .i1⟩
  | 29 => ⟨S_, .i1⟩
  | 30 => ⟨S16384x7x7, .i1⟩
  | 31 => ⟨S16384x7x7x8, .f32⟩
  | 32 => ⟨S16384x7x7x8, .i1⟩
  | 33 => ⟨S_, .f32⟩
  | 34 => ⟨S16384x7x7x8, .f32⟩
  | 35 => ⟨S16384x7x7x8, .f32⟩
  | 36 => ⟨S16384x1x7x7, .i32⟩
  | 37 => ⟨S16384x7x7, .i32⟩
  | 38 => ⟨S_, .i32⟩
  | 39 => ⟨S16384x7x7, .i32⟩
  | 40 => ⟨S16384x7x7, .i1⟩
  | 41 => ⟨S_, .i32⟩
  | 42 => ⟨S16384x7x7, .i32⟩
  | 43 => ⟨S16384x7x7, .i32⟩
  | 44 => ⟨S16384x7x7, .i32⟩
  | 45 => ⟨S16384x7x7x1, .i32⟩
  | 46 => ⟨S1, .i32⟩
  | 47 => ⟨S_, .i32⟩
  | 48 => ⟨S16384x7x7x1, .i32⟩
  | 49 => ⟨S16384x7x7x1, .i1⟩
  | 50 => ⟨S1x1x1x1, .i32⟩
  | 51 => ⟨S16384x7x7x1, .i32⟩
  | 52 => ⟨S16384x7x7x1, .i1⟩
  | 53 => ⟨S16384x7x7x1, .i1⟩
  | 54 => ⟨S_, .i1⟩
  | 55 => ⟨S16384x7x7, .i1⟩
  | 56 => ⟨S16384x7x7x8, .f32⟩
  | 57 => ⟨S16384x7x7x8, .i1⟩
  | 58 => ⟨S_, .f32⟩
  | 59 => ⟨S16384x7x7x8, .f32⟩
  | 60 => ⟨S16384x7x7x8, .f32⟩
  | 61 => ⟨S16384x1x7x7, .i32⟩
  | 62 => ⟨S16384x7x7, .i32⟩
  | 63 => ⟨S_, .i32⟩
  | 64 => ⟨S16384x7x7, .i32⟩
  | 65 => ⟨S16384x7x7, .i1⟩
  | 66 => ⟨S_, .i32⟩
  | 67 => ⟨S16384x7x7, .i32⟩
  | 68 => ⟨S16384x7x7, .i32⟩
  | 69 => ⟨S16384x7x7, .i32⟩
  | 70 => ⟨S16384x7x7x1, .i32⟩
  | 71 => ⟨S1, .i32⟩
  | 72 => ⟨S_, .i32⟩
  | 73 => ⟨S16384x7x7x1, .i32⟩
  | 74 => ⟨S16384x7x7x1, .i1⟩
  | 75 => ⟨S1x1x1x1, .i32⟩
  | 76 => ⟨S16384x7x7x1, .i32⟩
  | 77 => ⟨S16384x7x7x1, .i1⟩
  | 78 => ⟨S16384x7x7x1, .i1⟩
  | 79 => ⟨S_, .i1⟩
  | 80 => ⟨S16384x7x7, .i1⟩
  | 81 => ⟨S16384x7x7x8, .f32⟩
  | 82 => ⟨S16384x7x7x8, .i1⟩
  | 83 => ⟨S_, .f32⟩
  | 84 => ⟨S16384x7x7x8, .f32⟩
  | 85 => ⟨S16384x7x7x8, .f32⟩
  | 86 => ⟨S16384x1x7x7, .i32⟩
  | 87 => ⟨S16384x7x7, .i32⟩
  | 88 => ⟨S_, .i32⟩
  | 89 => ⟨S16384x7x7, .i32⟩
  | 90 => ⟨S16384x7x7, .i1⟩
  | 91 => ⟨S_, .i32⟩
  | 92 => ⟨S16384x7x7, .i32⟩
  | 93 => ⟨S16384x7x7, .i32⟩
  | 94 => ⟨S16384x7x7, .i32⟩
  | 95 => ⟨S16384x7x7x1, .i32⟩
  | 96 => ⟨S1, .i32⟩
  | 97 => ⟨S_, .i32⟩
  | 98 => ⟨S16384x7x7x1, .i32⟩
  | 99 => ⟨S16384x7x7x1, .i1⟩
  | 100 => ⟨S1x1x1x1, .i32⟩
  | 101 => ⟨S16384x7x7x1, .i32⟩
  | 102 => ⟨S16384x7x7x1, .i1⟩
  | 103 => ⟨S16384x7x7x1, .i1⟩
  | 104 => ⟨S_, .i1⟩
  | 105 => ⟨S16384x7x7, .i1⟩
  | 106 => ⟨S16384x7x7x8, .f32⟩
  | 107 => ⟨S16384x7x7x8, .i1⟩
  | 108 => ⟨S_, .f32⟩
  | 109 => ⟨S16384x7x7x8, .f32⟩
  | 110 => ⟨S16384x7x7x8, .f32⟩
  | 111 => ⟨S16384x7x7x8x1, .f32⟩
  | 112 => ⟨S16384x7x7x8x1, .f32⟩
  | 113 => ⟨S16384x7x7x8x1, .f32⟩
  | 114 => ⟨S16384x7x7x8x1, .f32⟩
  | 115 => ⟨S16384x7x7x8x4, .f32⟩
  | 116 => ⟨S16384x1568, .f32⟩
  | 117 => ⟨S1568x1024, .f32⟩
  | 118 => ⟨S16384x1024, .f32⟩
  | 119 => ⟨S1x1024, .f32⟩
  | 120 => ⟨S16384x1024, .f32⟩
  | 121 => ⟨S16384x1024, .f32⟩
  | 122 => ⟨S_, .f32⟩
  | 123 => ⟨S16384x1024, .f32⟩
  | 124 => ⟨S16384x1024, .i1⟩
  | 125 => ⟨S_, .f32⟩
  | 126 => ⟨S16384x1024, .f32⟩
  | 127 => ⟨S16384x1024, .f32⟩
  | _ => ⟨S16384x4x7x7, .i32⟩

abbrev hbmTy0_1 (i : Nat) : BufTy := match i % 128 with
  | 0 => ⟨S16384x1024, .f32⟩
  | 1 => ⟨S_, .f32⟩
  | 2 => ⟨S1024, .f32⟩
  | 3 => ⟨S_, .f32⟩
  | 4 => ⟨S1024, .f32⟩
  | 5 => ⟨S1024, .f32⟩
  | 6 => ⟨S1x1024, .f32⟩
  | 7 => ⟨S16384x1024, .f32⟩
  | 8 => ⟨S16384x1024, .f32⟩
  | 9 => ⟨S16384x1024, .f32⟩
  | 10 => ⟨S_, .f32⟩
  | 11 => ⟨S1024, .f32⟩
  | 12 => ⟨S_, .f32⟩
  | 13 => ⟨S1024, .f32⟩
  | 14 => ⟨S1024, .f32⟩
  | 15 => ⟨S1x1024, .f32⟩
  | 16 => ⟨S16384x1024, .f32⟩
  | 17 => ⟨S16384x1024, .f32⟩
  | 18 => ⟨S_, .f32⟩
  | 19 => ⟨S1024, .f32⟩
  | 20 => ⟨S1024, .f32⟩
  | 21 => ⟨S1024, .f32⟩
  | 22 => ⟨S1x1024, .f32⟩
  | 23 => ⟨S16384x1024, .f32⟩
  | 24 => ⟨S16384x1024, .f32⟩
  | 25 => ⟨S1x1024, .f32⟩
  | 26 => ⟨S16384x1024, .f32⟩
  | 27 => ⟨S16384x1024, .f32⟩
  | 28 => ⟨S1x1024, .f32⟩
  | 29 => ⟨S16384x1024, .f32⟩
  | 30 => ⟨S16384x1024, .f32⟩
  | 31 => ⟨S1024x512, .f32⟩
  | 32 => ⟨S16384x512, .f32⟩
  | 33 => ⟨S1x512, .f32⟩
  | 34 => ⟨S16384x512, .f32⟩
  | 35 => ⟨S16384x512, .f32⟩
  | 36 => ⟨S_, .f32⟩
  | 37 => ⟨S16384x512, .f32⟩
  | 38 => ⟨S16384x512, .i1⟩
  | 39 => ⟨S_, .f32⟩
  | 40 => ⟨S16384x512, .f32⟩
  | 41 => ⟨S16384x512, .f32⟩
  | 42 => ⟨S16384x512, .f32⟩
  | _ => ⟨S16384x4x7x7, .i32⟩

abbrev hbmTy (i : Nat) : BufTy := match i / 128 with
  | 0 => hbmTy0_0 i
  | 1 => hbmTy0_1 i
  | _ => ⟨S16384x4x7x7, .i32⟩

abbrev bufTy : (tb : Table) → Fin (tcTables nBuf tb) → BufTy
  | .hbm, ⟨i, _⟩ => hbmTy i
  | _, _ => ⟨S16384x4x7x7, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_call2_c : Ref sig .tc := ⟨.hbm, 63, rfl⟩
abbrev main_call2_v0 : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_c_1 : Ref sig .tc := ⟨.hbm, 71, rfl⟩
abbrev main_call2_c_2 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_c_3 : Ref sig .tc := ⟨.hbm, 79, rfl⟩
abbrev main_call2_v12 : Ref sig .tc := ⟨.hbm, 80, rfl⟩
abbrev main_call2_v13 : Ref sig .tc := ⟨.hbm, 81, rfl⟩
abbrev main_call2_v14 : Ref sig .tc := ⟨.hbm, 82, rfl⟩
abbrev main_call2_cst : Ref sig .tc := ⟨.hbm, 83, rfl⟩
abbrev main_call2_v15 : Ref sig .tc := ⟨.hbm, 84, rfl⟩
abbrev main_v8 : Ref sig .tc := ⟨.hbm, 85, rfl⟩
abbrev main_v9 : Ref sig .tc := ⟨.hbm, 86, rfl⟩
abbrev main_v10 : Ref sig .tc := ⟨.hbm, 87, rfl⟩
abbrev main_call3_c : Ref sig .tc := ⟨.hbm, 88, rfl⟩
abbrev main_call3_v0 : Ref sig .tc := ⟨.hbm, 89, rfl⟩
abbrev main_call3_v1 : Ref sig .tc := ⟨.hbm, 90, rfl⟩
abbrev main_call3_c_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_c_1 : Ref sig .tc := ⟨.hbm, 96, rfl⟩
abbrev main_call3_c_2 : Ref sig .tc := ⟨.hbm, 97, rfl⟩
abbrev main_call3_v6 : Ref sig .tc := ⟨.hbm, 98, rfl⟩
abbrev main_call3_v7 : Ref sig .tc := ⟨.hbm, 99, rfl⟩
abbrev main_call3_v8 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_c_3 : Ref sig .tc := ⟨.hbm, 104, rfl⟩
abbrev main_call3_v12 : Ref sig .tc := ⟨.hbm, 105, rfl⟩
abbrev main_call3_v13 : Ref sig .tc := ⟨.hbm, 106, rfl⟩
abbrev main_call3_v14 : Ref sig .tc := ⟨.hbm, 107, rfl⟩
abbrev main_call3_cst : Ref sig .tc := ⟨.hbm, 108, rfl⟩
abbrev main_call3_v15 : Ref sig .tc := ⟨.hbm, 109, rfl⟩
abbrev main_v11 : Ref sig .tc := ⟨.hbm, 110, rfl⟩
abbrev main_v12 : Ref sig .tc := ⟨.hbm, 111, rfl⟩
abbrev main_v13 : Ref sig .tc := ⟨.hbm, 112, rfl⟩
abbrev main_v14 : Ref sig .tc := ⟨.hbm, 113, rfl⟩
abbrev main_v15 : Ref sig .tc := ⟨.hbm, 114, rfl⟩
abbrev main_v16 : Ref sig .tc := ⟨.hbm, 115, rfl⟩
abbrev main_v17 : Ref sig .tc := ⟨.hbm, 116, rfl⟩
abbrev main_v18 : Ref sig .tc := ⟨.hbm, 117, rfl⟩
abbrev main_v19 : Ref sig .tc := ⟨.hbm, 118, rfl⟩
abbrev main_v20 : Ref sig .tc := ⟨.hbm, 119, rfl⟩
abbrev main_v21 : Ref sig .tc := ⟨.hbm, 120, rfl⟩
abbrev main_v22 : Ref sig .tc := ⟨.hbm, 121, rfl⟩
abbrev main_cst : Ref sig .tc := ⟨.hbm, 122, rfl⟩
abbrev main_v23 : Ref sig .tc := ⟨.hbm, 123, rfl⟩
abbrev main_v24 : Ref sig .tc := ⟨.hbm, 124, rfl⟩
abbrev main_cst_0 : Ref sig .tc := ⟨.hbm, 125, rfl⟩
abbrev main_v25 : Ref sig .tc := ⟨.hbm, 126, rfl⟩
abbrev main_v26 : Ref sig .tc := ⟨.hbm, 127, rfl⟩
abbrev main_v27 : Ref sig .tc := ⟨.hbm, 128, rfl⟩
abbrev main_cst_1 : Ref sig .tc := ⟨.hbm, 129, rfl⟩
abbrev main_v28 : Ref sig .tc := ⟨.hbm, 130, rfl⟩
abbrev main_cst_2 : Ref sig .tc := ⟨.hbm, 131, rfl⟩
abbrev main_v29 : Ref sig .tc := ⟨.hbm, 132, rfl⟩
abbrev main_v30 : Ref sig .tc := ⟨.hbm, 133, rfl⟩
abbrev main_v31 : Ref sig .tc := ⟨.hbm, 134, rfl⟩
abbrev main_v32 : Ref sig .tc := ⟨.hbm, 135, rfl⟩
abbrev main_v33 : Ref sig .tc := ⟨.hbm, 136, rfl⟩
abbrev main_v34 : Ref sig .tc := ⟨.hbm, 137, rfl⟩
abbrev main_cst_3 : Ref sig .tc := ⟨.hbm, 138, rfl⟩
abbrev main_v35 : Ref sig .tc := ⟨.hbm, 139, rfl⟩
abbrev main_cst_4 : Ref sig .tc := ⟨.hbm, 140, rfl⟩
abbrev main_v36 : Ref sig .tc := ⟨.hbm, 141, rfl⟩
abbrev main_v37 : Ref sig .tc := ⟨.hbm, 142, rfl⟩
abbrev main_v38 : Ref sig .tc := ⟨.hbm, 143, rfl⟩
abbrev main_v39 : Ref sig .tc := ⟨.hbm, 144, rfl⟩
abbrev main_v40 : Ref sig .tc := ⟨.hbm, 145, rfl⟩
abbrev main_cst_5 : Ref sig .tc := ⟨.hbm, 146, rfl⟩
abbrev main_v41 : Ref sig .tc := ⟨.hbm, 147, rfl⟩
abbrev main_v42 : Ref sig .tc := ⟨.hbm, 148, rfl⟩
abbrev main_v43 : Ref sig .tc := ⟨.hbm, 149, rfl⟩
abbrev main_v44 : Ref sig .tc := ⟨.hbm, 150, rfl⟩
abbrev main_v45 : Ref sig .tc := ⟨.hbm, 151, rfl⟩
abbrev main_v46 : Ref sig .tc := ⟨.hbm, 152, rfl⟩
abbrev main_v47 : Ref sig .tc := ⟨.hbm, 153, rfl⟩
abbrev main_v48 : Ref sig .tc := ⟨.hbm, 154, rfl⟩
abbrev main_v49 : Ref sig .tc := ⟨.hbm, 155, rfl⟩
abbrev main_v50 : Ref sig .tc := ⟨.hbm, 156, rfl⟩
abbrev main_v51 : Ref sig .tc := ⟨.hbm, 157, rfl⟩
abbrev main_v52 : Ref sig .tc := ⟨.hbm, 158, rfl⟩
abbrev main_v53 : Ref sig .tc := ⟨.hbm, 159, rfl⟩
abbrev main_v54 : Ref sig .tc := ⟨.hbm, 160, rfl⟩
abbrev main_v55 : Ref sig .tc := ⟨.hbm, 161, rfl⟩
abbrev main_v56 : Ref sig .tc := ⟨.hbm, 162, rfl⟩
abbrev main_v57 : Ref sig .tc := ⟨.hbm, 163, rfl⟩
abbrev main_cst_6 : Ref sig .tc := ⟨.hbm, 164, rfl⟩
abbrev main_v58 : Ref sig .tc := ⟨.hbm, 165, rfl⟩
abbrev main_v59 : Ref sig .tc := ⟨.hbm, 166, rfl⟩
abbrev main_cst_7 : Ref sig .tc := ⟨.hbm, 167, rfl⟩
abbrev main_v60 : Ref sig .tc := ⟨.hbm, 168, rfl⟩
abbrev main_v61 : Ref sig .tc := ⟨.hbm, 169, rfl⟩
abbrev main_v62 : Ref sig .tc := ⟨.hbm, 170, rfl⟩

abbrev nD : Nat := 1
abbrev τ : Topo := Topo.v7x

variable {F : FTy → Type} [FloatOps F]
-- ==== Proof.Body0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! What one run of the first call's body does, at a grid point of each kind: the first point, which fills the two scratch buffers and clears the
statistics, and any later point, which uses what the first one left. -/

/-- The condition of the first call's two guarded blocks. -/
abbrev atZero0 (i : grid0.Coords) : Prop := (Scalar.cmpi .ne (Scalar.extui (Scalar.cmpi .eq (BitVec.ofNat 32 (i 0).val) 0#32)) 0#32) = 1#1

/-- It holds at the first point and at no other. -/
theorem atZero0_iff (t : Fin cfg0.N) : atZero0 (grid0.coords t) ↔ t.val = 0 := by
  have ht : t.val < 16 := Nat.lt_of_lt_of_eq t.isLt N_0
  have e0 : (grid0.coords t 0).val = t.val / 1 % 16 := Pipeline.Grid.coords_val t 0 (by decide) rfl
  simp only [atZero0, e0]
  word_cmp

/-- The first row of a block of eight rows of 1024. -/
abbrev row0 (x : Vec F S8x1024 .f32) : Vec F S1x1024 .f32 := View.ld x (Rect.unit ![0, 0] S1x1024.size inb_S8x1024_S1x1024_0_0)
/-- The first row of the pattern block: which table row each column asks for. -/
abbrev patM (x : Vec F S8x640 .i32) : Vec F S1x640 .i32 := View.ld x (Rect.unit ![0, 0] S1x640.size inb_S8x640_S1x640_0_0)
/-- The second row of the pattern block: which cell of the board each column belongs to. -/
abbrev patH (x : Vec F S8x640 .i32) : Vec F S1x640 .i32 := View.ld x (Rect.unit ![1, 0] S1x640.size inb_S8x640_S1x640_1_0)

/-- The expansion matrix that the first point stores, from the table block and the pattern block. -/
def gOf (x1 : Vec F S32x32 .f32) (x2 : Vec F S8x640 .i32) : Vec F S1568x640 .f32 :=
  k0_pay14 (k0_pay12 (k0_pay4 (patH x2)))
    (k0_pay13 (k0_pay3 (patM x2)) (k0_pay5 x1)
      (k0_pay9 (k0_pay3 (patM x2)) (k0_pay5 x1) (k0_pay6 (patM x2) x1) (k0_pay7 x1) (k0_pay8 (patM x2)))
      (k0_pay10 (k0_pay5 x1)) (k0_pay11 (k0_pay3 (patM x2))))
    (Scalar.ofBits .f32 0x00000000#32)

/-- The fused table that the first point stores: the weights times the expansion matrix. -/
def vtOf (x1 : Vec F S32x32 .f32) (x2 : Vec F S8x640 .i32) (x3 : Vec F S1024x1568 .f32) : Vec F S1024x640 .bf16 := k0_pay15 x3 (gOf x1 x2)

/-- The activations of a block of rows. -/
def fc1Act (x0 : Vec F S1024x4x7x7 .i32) (x4 : Vec F S8x1024 .f32) (vt : Vec F S1024x640 .bf16) : Vec F S1024x1024 .f32 := k0_pay16 x0 vt (row0 x4)
/-- The activations as they are stored. -/
def fc1Out (x0 : Vec F S1024x4x7x7 .i32) (x4 : Vec F S8x1024 .f32) (vt : Vec F S1024x640 .bf16) : Vec F S1024x1024 .bf16 := k0_pay17 x0 vt (row0 x4)
/-- Their column sums. -/
def fc1Sum (x0 : Vec F S1024x4x7x7 .i32) (x4 : Vec F S8x1024 .f32) (vt : Vec F S1024x640 .bf16) : Vec F S1x1024 .f32 := k0_pay18 x0 vt (row0 x4)
/-- The statistics after a block, from what they were before it. -/
def fc1Stats (x0 : Vec F S1024x4x7x7 .i32) (x4 : Vec F S8x1024 .f32) (vt : Vec F S1024x640 .bf16) (acc : Vec F S8x1024 .f32) : Vec F S8x1024 .f32 :=
  k0_pay2 (fc1Act x0 x4 vt) (fc1Sum x0 x4 vt) acc

set_option maxHeartbeats 1000000 in
/-- A later point: the block's activations, the statistics added up, the scratch buffers as they were. -/
theorem run0_later (c : Dev nD) (i : grid0.Coords)
    (arg1 : Memref sig .tc .vmem S1024x4x7x7 .i32) (harg1 : arg1.IsWhole) (arg2 : Memref sig .tc .vmem S32x32 .f32) (harg2 : arg2.IsWhole)
    (arg3 : Memref sig .tc .vmem S8x640 .i32) (harg3 : arg3.IsWhole) (arg4 : Memref sig .tc .vmem S1024x1568 .f32) (harg4 : arg4.IsWhole)
    (arg5 : Memref sig .tc .vmem S8x1024 .f32) (harg5 : arg5.IsWhole) (arg6 : Memref sig .tc .vmem S1024x1024 .bf16) (harg6 : arg6.IsWhole)
    (arg7 : Memref sig .tc .vmem S8x1024 .f32) (harg7 : arg7.IsWhole) (arg8 : Memref sig .tc .vmem S1568x640 .f32) (harg8 : arg8.IsWhole)
    (arg9 : Memref sig .tc .vmem S1024x640 .bf16) (harg9 : arg9.IsWhole) (hc : ¬atZero0 i)
    (x0 : Vec F S1024x4x7x7 .i32) (x1 : Vec F S32x32 .f32) (x2 : Vec F S8x640 .i32) (x3 : Vec F S1024x1568 .f32) (x4 : Vec F S8x1024 .f32)
    (acc : Vec F S8x1024 .f32) (vt : Vec F S1024x640 .bf16) (E : Set ℕ) (K : PUnit → sProp 𝕄) :
    iprop(owns (c : Thread nD τ) arg1 fullShare (x0)
          ∗ owns (c : Thread nD τ) arg2 fullShare (x1)
          ∗ owns (c : Thread nD τ) arg3 fullShare (x2)
          ∗ owns (c : Thread nD τ) arg4 fullShare (x3)
          ∗ owns (c : Thread nD τ) arg5 fullShare (x4)
          ∗ (∃ d, owns (c : Thread nD τ) arg6 fullShare d)
          ∗ owns (c : Thread nD τ) arg7 fullShare (acc)
          ∗ owns (c : Thread nD τ) arg9 fullShare (vt)
        ∗ (iprop(owns (c : Thread nD τ) arg1 fullShare (x0)
          ∗ owns (c : Thread nD τ) arg2 fullShare (x1)
          ∗ owns (c : Thread nD τ) arg3 fullShare (x2)
          ∗ owns (c : Thread nD τ) arg4 fullShare (x3)
          ∗ owns (c : Thread nD τ) arg5 fullShare (x4)
          ∗ owns (c : Thread nD τ) arg6 fullShare (fc1Out x0 x4 vt)
          ∗ owns (c : Thread nD τ) arg7 fullShare (fc1Stats x0 x4 vt acc)
          ∗ owns (c : Thread nD τ) arg9 fullShare (vt)) -∗ K ⟨⟩))
      ⊢ wp frame (wpE (defs₀ (F := F)) Variants.none c none) E (cc0__fc1_kernel i arg1 harg1 arg2 harg2 arg3 harg3 arg4 harg4 arg5 harg5 arg6 harg6 arg7 harg7 arg8 harg8 arg9 harg9) K := by
  simp only [cc0__fc1_kernel_eq_skeleton]; unfold cc0__fc1_kernel_skel
  simp only [k0_part4_eq_skeleton, k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f9, %hf9, H9⟩, Hk⟩
  obtain rfl := harg1.eq_unread hf0; obtain rfl := harg2.eq_unread hf1; obtain rfl := harg3.eq_unread hf2; obtain rfl := harg4.eq_unread hf3
  obtain rfl := harg5.eq_unread hf4; obtain rfl := harg7.eq_unread hf6; obtain rfl := harg9.eq_unread hf9
  have e0 : View.readAt (Elt F) arg1.view (Rect.unit (s := S1024x4x7x7) ![0, 0, 0, 0] S1024x4x7x7.size inb_S1024x4x7x7_S1024x4x7x7_0_0_0_0).toLoadRect (harg1.unread x0) = x0 := (View.readAt_full _ _ _).trans (harg1.read_unread _)
  have e4 : View.readAt (Elt F) arg5.view (Rect.unit (s := S8x1024) ![0, 0] S1x1024.size inb_S8x1024_S1x1024_0_0).toLoadRect (harg5.unread x4) = row0 x4 := by rw [View.readAt_eq_ld, harg5.read_unread]
  have e6 : View.readAt (Elt F) arg7.view (Rect.unit (s := S8x1024) ![0, 0] S8x1024.size inb_S8x1024_S8x1024_0_0).toLoadRect (harg7.unread acc) = acc := (View.readAt_full _ _ _).trans (harg7.read_unread _)
  have e9 : View.readAt (Elt F) arg9.view (Rect.unit (s := S1024x640) ![0, 0] S1024x640.size inb_S1024x640_S1024x640_0_0).toLoadRect (harg9.unread vt) = vt := (View.readAt_full _ _ _).trans (harg9.read_unread _)
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    repeat (first | unfold run0_later.sl.r | unfold run0_later.sl.r_1)
    rw [View.read_writes_full]
    rfl
  isplitl [H6]
  · iexists _; isplitr
    swap; · iexact H6
    ipureintro
    repeat (first | unfold run0_later.sl.r | unfold run0_later.sl.r_1)
    rw [View.read_writes_full]
    rfl
  iexists _; isplitr; · ipureintro; exact harg9.read_unread _
  iexact H9

set_option maxHeartbeats 1000000 in
/-- The first point: the scratch buffers filled, the statistics started from zero. -/
theorem run0_first (c : Dev nD) (i : grid0.Coords)
    (arg1 : Memref sig .tc .vmem S1024x4x7x7 .i32) (harg1 : arg1.IsWhole) (arg2 : Memref sig .tc .vmem S32x32 .f32) (harg2 : arg2.IsWhole)
    (arg3 : Memref sig .tc .vmem S8x640 .i32) (harg3 : arg3.IsWhole) (arg4 : Memref sig .tc .vmem S1024x1568 .f32) (harg4 : arg4.IsWhole)
    (arg5 : Memref sig .tc .vmem S8x1024 .f32) (harg5 : arg5.IsWhole) (arg6 : Memref sig .tc .vmem S1024x1024 .bf16) (harg6 : arg6.IsWhole)
    (arg7 : Memref sig .tc .vmem S8x1024 .f32) (harg7 : arg7.IsWhole) (arg8 : Memref sig .tc .vmem S1568x640 .f32) (harg8 : arg8.IsWhole)
    (arg9 : Memref sig .tc .vmem S1024x640 .bf16) (harg9 : arg9.IsWhole) (hc : atZero0 i)
    (x0 : Vec F S1024x4x7x7 .i32) (x1 : Vec F S32x32 .f32) (x2 : Vec F S8x640 .i32) (x3 : Vec F S1024x1568 .f32) (x4 : Vec F S8x1024 .f32)
    (E : Set ℕ) (K : PUnit → sProp 𝕄) :
    iprop(owns (c : Thread nD τ) arg1 fullShare (x0)
          ∗ owns (c : Thread nD τ) arg2 fullShare (x1)
          ∗ owns (c : Thread nD τ) arg3 fullShare (x2)
          ∗ owns (c : Thread nD τ) arg4 fullShare (x3)
          ∗ owns (c : Thread nD τ) arg5 fullShare (x4)
          ∗ (∃ d, owns (c : Thread nD τ) arg6 fullShare d)
          ∗ (∃ d, owns (c : Thread nD τ) arg7 fullShare d)
          ∗ (∃ d, owns (c : Thread nD τ) arg8 fullShare d)
          ∗ (∃ d, owns (c : Thread nD τ) arg9 fullShare d)
        ∗ (iprop(owns (c : Thread nD τ) arg1 fullShare (x0)
          ∗ owns (c : Thread nD τ) arg2 fullShare (x1)
          ∗ owns (c : Thread nD τ) arg3 fullShare (x2)
          ∗ owns (c : Thread nD τ) arg4 fullShare (x3)
          ∗ owns (c : Thread nD τ) arg5 fullShare (x4)
          ∗ owns (c : Thread nD τ) arg6 fullShare (fc1Out x0 x4 (vtOf x1 x2 x3))
          ∗ owns (c : Thread nD τ) arg7 fullShare (fc1Stats x0 x4 (vtOf x1 x2 x3) (k0_pay1 (F := F)))
          ∗ owns (c : Thread nD τ) arg8 fullShare (gOf x1 x2)
          ∗ owns (c : Thread nD τ) arg9 fullShare (vtOf x1 x2 x3)) -∗ K ⟨⟩))
      ⊢ wp frame (wpE (defs₀ (F := F)) Variants.none c none) E (cc0__fc1_kernel i arg1 harg1 arg2 harg2 arg3 harg3 arg4 harg4 arg5 harg5 arg6 harg6 arg7 harg7 arg8 harg8 arg9 harg9) K := by
  simp only [cc0__fc1_kernel_eq_skeleton]; unfold cc0__fc1_kernel_skel
  simp only [k0_part4_eq_skeleton, k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d8, %f8, -, H8⟩, ⟨%d9, %f9, -, H9⟩, Hk⟩
  obtain rfl := harg1.eq_unread hf0; obtain rfl := harg2.eq_unread hf1; obtain rfl := harg3.eq_unread hf2; obtain rfl := harg4.eq_unread hf3
  obtain rfl := harg5.eq_unread hf4
  have e0 : View.readAt (Elt F) arg1.view (Rect.unit (s := S1024x4x7x7) ![0, 0, 0, 0] S1024x4x7x7.size inb_S1024x4x7x7_S1024x4x7x7_0_0_0_0).toLoadRect (harg1.unread x0) = x0 := (View.readAt_full _ _ _).trans (harg1.read_unread _)
  have e4 : View.readAt (Elt F) arg5.view (Rect.unit (s := S8x1024) ![0, 0] S1x1024.size inb_S8x1024_S1x1024_0_0).toLoadRect (harg5.unread x4) = row0 x4 := by rw [View.readAt_eq_ld, harg5.read_unread]
  have e1 : View.readAt (Elt F) arg2.view (Rect.unit (s := S32x32) ![0, 0] S32x32.size inb_S32x32_S32x32_0_0).toLoadRect (harg2.unread x1) = x1 := (View.readAt_full _ _ _).trans (harg2.read_unread _)
  have e2 : View.readAt (Elt F) arg3.view (Rect.unit (s := S8x640) ![0, 0] S1x640.size inb_S8x640_S1x640_0_0).toLoadRect (harg3.unread x2) = patM x2 := by rw [View.readAt_eq_ld, harg3.read_unread]
  have e2h : View.readAt (Elt F) arg3.view (Rect.unit (s := S8x640) ![1, 0] S1x640.size inb_S8x640_S1x640_1_0).toLoadRect (harg3.unread x2) = patH x2 := by rw [View.readAt_eq_ld, harg3.read_unread]
  have e3 : View.readAt (Elt F) arg4.view (Rect.unit (s := S1024x1568) ![0, 0] S1024x1568.size inb_S1024x1568_S1024x1568_0_0).toLoadRect (harg4.unread x3) = x3 := (View.readAt_full _ _ _).trans (harg4.read_unread _)
  have c7 : ∀ w L, arg7.view.readCov (Val := Elt F) (⟨Rect.unit ![0, 0] S8x1024.size inb_S8x1024_S8x1024_0_0, w⟩ :: L) (Rect.unit ![0, 0] S8x1024.size inb_S8x1024_S8x1024_0_0).toLoadRect = w := fun w L => View.readCov_full _ _ _ w L
  have c8 : ∀ w L, arg8.view.readCov (Val := Elt F) (⟨Rect.unit ![0, 0] S1568x640.size inb_S1568x640_S1568x640_0_0, w⟩ :: L) (Rect.unit ![0, 0] S1568x640.size inb_S1568x640_S1568x640_0_0).toLoadRect = w := fun w L => View.readCov_full _ _ _ w L
  have c9 : ∀ w L, arg9.view.readCov (Val := Elt F) (⟨Rect.unit ![0, 0] S1024x640.size inb_S1024x640_S1024x640_0_0, w⟩ :: L) (Rect.unit ![0, 0] S1024x640.size inb_S1024x640_S1024x640_0_0).toLoadRect = w := fun w L => View.readCov_full _ _ _ w L
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    repeat (first | unfold run0_first.sl.cst_32 | unfold run0_first.sl.H6_1 | unfold run0_first.sl.H8_1 | unfold run0_first.sl.H9_1 | unfold run0_first.sl.v216 | unfold run0_first.sl.v22 | unfold run0_first.sl.v45 | unfold run0_first.sl.r | unfold run0_first.sl.r_1 | unfold run0_first.sl.r_2 | unfold run0_first.sl.r_3 | unfold run0_first.sl.r_4 | unfold run0_first.sl.r_5 | unfold run0_first.sl.r_6 | unfold run0_first.sl.r_7 | unfold run0_first.sl.r_8 | unfold run0_first.sl.r_9 | unfold run0_first.sl.r_10 | unfold run0_first.sl.r_11 | unfold run0_first.sl.r_12)
    rw [View.read_writes_full]
    rfl
  isplitl [H6]
  · iexists _; isplitr
    swap; · iexact H6
    ipureintro
    repeat (first | unfold run0_first.sl.cst_32 | unfold run0_first.sl.H6_1 | unfold run0_first.sl.H8_1 | unfold run0_first.sl.H9_1 | unfold run0_first.sl.v216 | unfold run0_first.sl.v22 | unfold run0_first.sl.v45 | unfold run0_first.sl.r | unfold run0_first.sl.r_1 | unfold run0_first.sl.r_2 | unfold run0_first.sl.r_3 | unfold run0_first.sl.r_4 | unfold run0_first.sl.r_5 | unfold run0_first.sl.r_6 | unfold run0_first.sl.r_7 | unfold run0_first.sl.r_8 | unfold run0_first.sl.r_9 | unfold run0_first.sl.r_10 | unfold run0_first.sl.r_11 | unfold run0_first.sl.r_12)
    rw [View.read_writes_full]
    rfl
  isplitl [H8]
  · iexists _; isplitr
    swap; · iexact H8
    ipureintro
    repeat (first | unfold run0_first.sl.cst_32 | unfold run0_first.sl.H6_1 | unfold run0_first.sl.H8_1 | unfold run0_first.sl.H9_1 | unfold run0_first.sl.v216 | unfold run0_first.sl.v22 | unfold run0_first.sl.v45 | unfold run0_first.sl.r | unfold run0_first.sl.r_1 | unfold run0_first.sl.r_2 | unfold run0_first.sl.r_3 | unfold run0_first.sl.r_4 | unfold run0_first.sl.r_5 | unfold run0_first.sl.r_6 | unfold run0_first.sl.r_7 | unfold run0_first.sl.r_8 | unfold run0_first.sl.r_9 | unfold run0_first.sl.r_10 | unfold run0_first.sl.r_11 | unfold run0_first.sl.r_12)
    rw [View.read_writes_full]
    rfl
  iexists _; isplitr
  swap; · iexact H9
  ipureintro
  repeat (first | unfold run0_first.sl.cst_32 | unfold run0_first.sl.H6_1 | unfold run0_first.sl.H8_1 | unfold run0_first.sl.H9_1 | unfold run0_first.sl.v216 | unfold run0_first.sl.v22 | unfold run0_first.sl.v45 | unfold run0_first.sl.r | unfold run0_first.sl.r_1 | unfold run0_first.sl.r_2 | unfold run0_first.sl.r_3 | unfold run0_first.sl.r_4 | unfold run0_first.sl.r_5 | unfold run0_first.sl.r_6 | unfold run0_first.sl.r_7 | unfold run0_first.sl.r_8 | unfold run0_first.sl.r_9 | unfold run0_first.sl.r_10 | unfold run0_first.sl.r_11 | unfold run0_first.sl.r_12)
  rw [View.read_writes_full]
  rfl

end Cert.KernelIdeal.Hand
-- ==== Proof.Region0.lean ====
module

public import proofs.«01_k».proof.Proof.Body0
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! The first call as a pipeline: what its windows and its scratch buffers hold at every grid point. -/

/-- One of the core's scoped buffers, whole, at some contents. -/
abbrev held0 (c : Dev nD) (b : Ref sig .tc) : sProp 𝕄 := iprop(∃ f : Buf (Elt F) ((c : Thread nD τ).loc b), ((c : Thread nD τ).loc b) ↦{fullShare} f)

/-- The block of window `w` at point `t`, read off its array. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first grid point. -/
abbrev fst0 : Fin cfg0.N := ⟨0, by rw [show cfg0.N = 16 from N_0]; decide⟩

abbrev ms0_0 (t : Fin cfg0.N) : Memref sig .tc .vmem S1024x4x7x7 .i32 := win0_0.stage (cfg0.slots t 0)
abbrev ms0_1 (t : Fin cfg0.N) : Memref sig .tc .vmem S32x32 .f32 := win0_1.stage (cfg0.slots t 1)
abbrev ms0_2 (t : Fin cfg0.N) : Memref sig .tc .vmem S8x640 .i32 := win0_2.stage (cfg0.slots t 2)
abbrev ms0_3 (t : Fin cfg0.N) : Memref sig .tc .vmem S1024x1568 .f32 := win0_3.stage (cfg0.slots t 3)
abbrev ms0_4 (t : Fin cfg0.N) : Memref sig .tc .vmem S8x1024 .f32 := win0_4.stage (cfg0.slots t 4)
abbrev ms0_5 (t : Fin cfg0.N) : Memref sig .tc .vmem S1024x1024 .bf16 := win0_5.stage (cfg0.slots t 5)
abbrev ms0_6 (t : Fin cfg0.N) : Memref sig .tc .vmem S8x1024 .f32 := win0_6.stage (cfg0.slots t 6)
abbrev sG : Memref sig .tc .vmem S1568x640 .f32 := Memref.whole cc0_scratch0
abbrev sVt : Memref sig .tc .vmem S1024x640 .bf16 := Memref.whole cc0_scratch1

/-- The scoped buffers the first call does not use. -/
abbrev others0 (c : Dev nD) : sProp 𝕄 := iprop(held0 (F := F) c cc1_stg0_0 ∗ held0 (F := F) c cc1_stg0_1 ∗ held0 (F := F) c cc1_stg1_0 ∗ held0 (F := F) c cc1_stg2_0 ∗ held0 (F := F) c cc1_stg3_0 ∗ held0 (F := F) c cc1_stg4_0 ∗ held0 (F := F) c cc1_stg5_0 ∗ held0 (F := F) c cc1_stg5_1 ∗ held0 (F := F) c cc1_scratch0)

theorem PhiA0_eq (c : Dev nD) :
    (Pipeline.ΦA spec0 c : sProp 𝕄)
      = iprop(iprop((∃ d, owns (c : Thread nD τ) sG fullShare d) ∗ (∃ d, owns (c : Thread nD τ) sVt fullShare d) ∗ others0 (F := F) c) ∗ (∃ r, prngReg c r)) := by
  unfold Pipeline.ΦA; rw [scopedRest0_eq]; simp only [sG, sVt, owns_whole]; try rfl

/-- The fused table the first point leaves. -/
def vtAt (c : Dev nD) : Vec F S1024x640 .bf16 := vtOf (blk0 V c 1 fst0) (blk0 V c 2 fst0) (blk0 V c 3 fst0)

/-- The statistics after point `n`. -/
def statsAt (c : Dev nD) : (n : ℕ) → n < cfg0.N → Vec F S8x1024 .f32
  | 0, h => fc1Stats (blk0 V c 0 ⟨0, h⟩) (blk0 V c 4 ⟨0, h⟩) (vtAt V c) (k0_pay1 (F := F))
  | n + 1, h => fc1Stats (blk0 V c 0 ⟨n + 1, h⟩) (blk0 V c 4 ⟨n + 1, h⟩) (vtAt V c) (statsAt c n (Nat.lt_of_succ_lt h))

theorem statsAt_first (c : Dev nD) (t : Fin cfg0.N) (h : t.val = 0) :
    statsAt V c t.val t.isLt = fc1Stats (blk0 V c 0 t) (blk0 V c 4 t) (vtAt V c) (k0_pay1 (F := F)) := by
  obtain ⟨n, hn⟩ := t
  cases n with
  | zero => rfl
  | succ n => exact absurd h (Nat.succ_ne_zero n)

theorem statsAt_later (c : Dev nD) (t : Fin cfg0.N) (h : t.val ≠ 0) :
    statsAt V c t.val t.isLt = fc1Stats (blk0 V c 0 t) (blk0 V c 4 t) (vtAt V c) (statsAt V c (t.val - 1) (Nat.lt_of_le_of_lt (Nat.sub_le _ _) t.isLt)) := by
  obtain ⟨n, hn⟩ := t
  cases n with
  | zero => exact absurd rfl h
  | succ n => rfl

/-- The invariant before position `n`: at first every scoped buffer at anything, afterwards the fused table in its buffer. -/
def Phi0 (c : Dev nD) : ℕ → sProp 𝕄
  | 0 => Pipeline.ΦA spec0 c
  | _ + 1 => iprop(iprop((∃ d, owns (c : Thread nD τ) sG fullShare d) ∗ owns (c : Thread nD τ) sVt fullShare (vtAt V c) ∗ others0 (F := F) c) ∗ (∃ r, prngReg c r))

theorem Phi0_zero (c : Dev nD) (n : ℕ) (h : n = 0) : Phi0 V c n = Pipeline.ΦA spec0 c := by subst h; rfl

theorem Phi0_pos (c : Dev nD) (n : ℕ) (h : n ≠ 0) :
    Phi0 V c n = iprop(iprop((∃ d, owns (c : Thread nD τ) sG fullShare d) ∗ owns (c : Thread nD τ) sVt fullShare (vtAt V c) ∗ others0 (F := F) c) ∗ (∃ r, prngReg c r)) := by
  cases n with
  | zero => exact absurd rfl h
  | succ n => rfl

/-- The proof data of the first call's pipeline on core `c`. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => fc1Out (blk0 V c 0 t) (blk0 V c 4 t) (vtAt V c)
    | ⟨6, _⟩ => statsAt V c t.val t.isLt
  Φ t := Phi0 V c t.val
  q _ := fullShare
  owed _ := 0

theorem dat0_A (c : Dev nD) (w : Fin cfg0.W) : (dat0 V c).A w = V c (Pipeline.arrRef spec0 w) := by dsimp only [dat0]
theorem dat0_Phi (c : Dev nD) (t : Fin cfg0.N) : (dat0 V c).Φ t.castSucc = Phi0 V c t.val := by dsimp only [dat0]; rfl

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem before0_0 (c : Dev nD) (t : Fin cfg0.N) (d) : (dat0 V c).before 0 t d = blk0 V c 0 t :=
  ((dat0 V c).before_in_eq_fetched 0 rfl (fun _ => rfl) (fun _ _ _ => rfl) (fun t => by rw [after0_0]; unfold Dat.blockOf blk0; rw [dat0_A]) t d).trans
    (by unfold Dat.fetched Dat.blockOf blk0; rw [dat0_A]; try rfl)
theorem before0_1 (c : Dev nD) (t : Fin cfg0.N) (d) : (dat0 V c).before 1 t d = blk0 V c 1 t :=
  ((dat0 V c).before_in_eq_fetched 1 rfl (fun _ => rfl) (fun _ _ _ => rfl) (fun t => by rw [after0_1]; unfold Dat.blockOf blk0; rw [dat0_A]) t d).trans
    (by unfold Dat.fetched Dat.blockOf blk0; rw [dat0_A]; try rfl)
theorem before0_2 (c : Dev nD) (t : Fin cfg0.N) (d) : (dat0 V c).before 2 t d = blk0 V c 2 t :=
  ((dat0 V c).before_in_eq_fetched 2 rfl (fun _ => rfl) (fun _ _ _ => rfl) (fun t => by rw [after0_2]; unfold Dat.blockOf blk0; rw [dat0_A]) t d).trans
    (by unfold Dat.fetched Dat.blockOf blk0; rw [dat0_A]; try rfl)
theorem before0_3 (c : Dev nD) (t : Fin cfg0.N) (d) : (dat0 V c).before 3 t d = blk0 V c 3 t :=
  ((dat0 V c).before_in_eq_fetched 3 rfl (fun _ => rfl) (fun _ _ _ => rfl) (fun t => by rw [after0_3]; unfold Dat.blockOf blk0; rw [dat0_A]) t d).trans
    (by unfold Dat.fetched Dat.blockOf blk0; rw [dat0_A]; try rfl)
theorem before0_4 (c : Dev nD) (t : Fin cfg0.N) (d) : (dat0 V c).before 4 t d = blk0 V c 4 t :=
  ((dat0 V c).before_in_eq_fetched 4 rfl (fun _ => rfl) (fun _ _ _ => rfl) (fun t => by rw [after0_4]; unfold Dat.blockOf blk0; rw [dat0_A]) t d).trans
    (by unfold Dat.fetched Dat.blockOf blk0; rw [dat0_A]; try rfl)
theorem after0_5 (c : Dev nD) (t : Fin cfg0.N) : (dat0 V c).after 5 t = fc1Out (blk0 V c 0 t) (blk0 V c 4 t) (vtAt V c) := by dsimp only [dat0]
theorem after0_6 (c : Dev nD) (t : Fin cfg0.N) : (dat0 V c).after 6 t = statsAt V c t.val t.isLt := by dsimp only [dat0]

/-- At a later point the statistics' buffer holds what the point before left. -/
theorem before0_6 (c : Dev nD) (t : Fin cfg0.N) (h : t.val ≠ 0) (d) :
    (dat0 V c).before 6 t d = statsAt V c (t.val - 1) (Nat.lt_of_le_of_lt (Nat.sub_le _ _) t.isLt) := by
  have hN : t.val < 16 := lt_of_lt_of_eq t.isLt (show cfg0.N = 16 from N_0)
  rw [Dat.before_out_kept _ 6 rfl t (by omega) (Bool.eq_false_iff.mpr fun h => by have := (flush0_6 _).mp h; dsimp only at this; omega)
    (fun _ => rfl) (fun _ _ => rfl)]
  dsimp only [dat0]

/-- What the body is called with at point `t`, -/
def bodyPre0 (c : Dev nD) (t : Fin cfg0.N) : sProp 𝕄 :=
  iprop((dat0 V c).Φ t.castSucc
    ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ
    ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t))

set_option maxHeartbeats 6400000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl, after0_0, after0_1, after0_2, after0_3, after0_4, after0_5, after0_6]
  rw [show (dat0 V c).Φ t.succ = Phi0 V c (t.val + 1) from rfl, Phi0_pos V c _ (Nat.succ_ne_zero _), dat0_Phi]
  by_cases hz : t.val = 0
  · obtain rfl : t = fst0 := Fin.ext hz
    rw [Phi0_zero V c _ hz, PhiA0_eq, statsAt_first V c _ hz]
    iintro ⟨⟨⟨HG, HV, HR⟩, Hg⟩, Ho, ⟨%d0, H0⟩, ⟨%d1, H1⟩, ⟨%d2, H2⟩, ⟨%d3, H3⟩, ⟨%d4, H4⟩, ⟨%d5, H5⟩, ⟨%d6, H6⟩⟩
    iapply (run0_first c (grid0.coords fst0) _ _ _ _ _ _ _ _ _ _ _ _ _ _ _ _ _ _ ((atZero0_iff fst0).mpr hz) (blk0 V c 0 fst0) (blk0 V c 1 fst0) (blk0 V c 2 fst0) (blk0 V c 3 fst0) (blk0 V c 4 fst0) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HG]; · iexact HG
    isplitl [HV]; · iexact HV
    iintro ⟨H0, H1, H2, H3, H4, H5, H6, HG, HV⟩
    isplitl [HG HV HR Hg]
    · isplitl [HG HV HR]
      · isplitl [HG]; · iexists _; iexact HG
        isplitl [HV]; · iexact HV
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Phi0_pos V c _ hz, statsAt_later V c _ hz]
    simp only [before0_6 V c t hz]
    iintro ⟨⟨⟨HG, HV, HR⟩, Hg⟩, Ho, ⟨%d0, H0⟩, ⟨%d1, H1⟩, ⟨%d2, H2⟩, ⟨%d3, H3⟩, ⟨%d4, H4⟩, ⟨%d5, H5⟩, ⟨%d6, H6⟩⟩
    iapply (run0_later c (grid0.coords t) _ _ _ _ _ _ _ _ _ _ _ _ _ _ _ _ _ _ (fun h => hz ((atZero0_iff t).mp h)) (blk0 V c 0 t) (blk0 V c 1 t) (blk0 V c 2 t) (blk0 V c 3 t) (blk0 V c 4 t) _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HV]; · iexact HV
    iintro ⟨H0, H1, H2, H3, H4, H5, H6, HV⟩
    isplitl [HG HV HR Hg]
    · isplitl [HG HV HR]
      · isplitl [HG]; · iexact HG
        isplitl [HV]; · iexact HV
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The invariant before the first point is what the launch hands over, -/
theorem Phi0_in (c : Dev nD) : (dat0 V c).Φ 0 = Pipeline.ΦA spec0 c := rfl

/-- and after the last point it gives the same back. -/
theorem Phi0_out (c : Dev nD) : (dat0 V c).Φ (Fin.last cfg0.N) ⊢ Pipeline.ΦA spec0 c := by
  rw [show (dat0 V c).Φ (Fin.last cfg0.N) = Phi0 V c cfg0.N from rfl, Phi0_pos V c _ (by rw [show cfg0.N = 16 from N_0]; decide), PhiA0_eq]
  iintro ⟨⟨HG, HV, HR⟩, Hg⟩
  isplitl [HG HV HR]
  · isplitl [HG]; · iexact HG
    isplitl [HV]; · iexists _; iexact HV
    iexact HR
  iexact Hg

/-- The body table's row of this call. -/
theorem row_eq0 (t : Fin cfg0.N) : defs₀ (F := F) .tc cfg0.body (cfg0.bodyArgs t (cfg0.slots t)) = bodyAt0 t := by
  unfold defs₀; rw [Defs.onTc_tc]

/-- The body obligation of the pipeline, at every point. -/
theorem obligation0 (c : Dev nD) : BodyObligation (dat0 V c) (defs₀ (F := F)) Variants.none () Set.univ := fun t => by
  rw [bigSep_W0, bigSep_W0, row_eq0]
  exact triple_restated (sound_body0 V c t) rfl .rfl fun _ => .rfl

end Cert.KernelIdeal.Hand
-- ==== Proof.Body1.lean ====
module

public import proofs.«01_k».proof.Proof.Body0
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! What one run of the second call's body does, at the first grid point, which stores the weights as they are multiplied, and at any later one. -/

/-- The condition of the second call's guarded block. -/
abbrev atZero1 (i : grid1.Coords) : Prop := (Scalar.cmpi .ne (Scalar.extui (Scalar.cmpi .eq (BitVec.ofNat 32 (i 0).val) 0#32)) 0#32) = 1#1

/-- It holds at the first point and at no other. -/
theorem atZero1_iff (t : Fin cfg1.N) : atZero1 (grid1.coords t) ↔ t.val = 0 := by
  have ht : t.val < 8 := Nat.lt_of_lt_of_eq t.isLt N_1
  have e0 : (grid1.coords t 0).val = t.val / 1 % 8 := Pipeline.Grid.coords_val t 0 (by decide) rfl
  simp only [atZero1, e0]
  word_cmp

/-- The second row of a block of eight rows of 1024. -/
abbrev row1 (x : Vec F S8x1024 .f32) : Vec F S1x1024 .f32 := View.ld x (Rect.unit ![1, 0] S1x1024.size inb_S8x1024_S1x1024_1_0)
/-- The first row of a block of eight rows of 512. -/
abbrev row0' (x : Vec F S8x512 .f32) : Vec F S1x512 .f32 := View.ld x (Rect.unit ![0, 0] S1x512.size inb_S8x512_S1x512_0_0)

/-- The result rows of a block: from its activations, the statistics, the two normalization parameters, the stored weights and the bias. -/
def fc2Out (x0 : Vec F S2048x1024 .bf16) (x1 : Vec F S8x1024 .f32) (x2 : Vec F S8x1024 .f32) (x4 : Vec F S8x512 .f32) (w : Vec F S512x1024 .bf16) : Vec F S2048x512 .f32 :=
  k1_pay1 (k1_pay3 (row0 x1) (row1 x1) (row0 x2) (row1 x2) x0 w (row0' x4)) (Scalar.ofBits .f32 0x00000000#32)

set_option maxHeartbeats 1000000 in
/-- A later point: the block's result, the stored weights as they were. -/
theorem run1_later (c : Dev nD) (i : grid1.Coords)
    (arg1 : Memref sig .tc .vmem S2048x1024 .bf16) (harg1 : arg1.IsWhole) (arg2 : Memref sig .tc .vmem S8x1024 .f32) (harg2 : arg2.IsWhole)
    (arg3 : Memref sig .tc .vmem S8x1024 .f32) (harg3 : arg3.IsWhole) (arg4 : Memref sig .tc .vmem S512x1024 .f32) (harg4 : arg4.IsWhole)
    (arg5 : Memref sig .tc .vmem S8x512 .f32) (harg5 : arg5.IsWhole) (arg6 : Memref sig .tc .vmem S2048x512 .f32) (harg6 : arg6.IsWhole)
    (arg7 : Memref sig .tc .vmem S512x1024 .bf16) (harg7 : arg7.IsWhole) (hc : ¬atZero1 i)
    (x0 : Vec F S2048x1024 .bf16) (x1 : Vec F S8x1024 .f32) (x2 : Vec F S8x1024 .f32) (x3 : Vec F S512x1024 .f32) (x4 : Vec F S8x512 .f32) (w : Vec F S512x1024 .bf16) (E : Set ℕ) (K : PUnit → sProp 𝕄) :
    iprop(owns (c : Thread nD τ) arg1 fullShare (x0)
          ∗ owns (c : Thread nD τ) arg2 fullShare (x1)
          ∗ owns (c : Thread nD τ) arg3 fullShare (x2)
          ∗ owns (c : Thread nD τ) arg4 fullShare (x3)
          ∗ owns (c : Thread nD τ) arg5 fullShare (x4)
          ∗ (∃ d, owns (c : Thread nD τ) arg6 fullShare d)
          ∗ owns (c : Thread nD τ) arg7 fullShare (w)
        ∗ (iprop(owns (c : Thread nD τ) arg1 fullShare (x0)
          ∗ owns (c : Thread nD τ) arg2 fullShare (x1)
          ∗ owns (c : Thread nD τ) arg3 fullShare (x2)
          ∗ owns (c : Thread nD τ) arg4 fullShare (x3)
          ∗ owns (c : Thread nD τ) arg5 fullShare (x4)
          ∗ owns (c : Thread nD τ) arg6 fullShare (fc2Out x0 x1 x2 x4 w)
          ∗ owns (c : Thread nD τ) arg7 fullShare (w)) -∗ K ⟨⟩))
      ⊢ wp frame (wpE (defs₀ (F := F)) Variants.none c none) E (cc1__fc2_kernel i arg1 harg1 arg2 harg2 arg3 harg3 arg4 harg4 arg5 harg5 arg6 harg6 arg7 harg7) K := by
  simp only [cc1__fc2_kernel_eq_skeleton]; unfold cc1__fc2_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f7, %hf7, H7⟩, Hk⟩
  obtain rfl := harg1.eq_unread hf0; obtain rfl := harg2.eq_unread hf1; obtain rfl := harg3.eq_unread hf2; obtain rfl := harg4.eq_unread hf3
  obtain rfl := harg5.eq_unread hf4; obtain rfl := harg7.eq_unread hf7
  have e0 : View.readAt (Elt F) arg1.view (Rect.unit (s := S2048x1024) ![0, 0] S2048x1024.size inb_S2048x1024_S2048x1024_0_0).toLoadRect (harg1.unread x0) = x0 := (View.readAt_full _ _ _).trans (harg1.read_unread _)
  have e1 : View.readAt (Elt F) arg2.view (Rect.unit (s := S8x1024) ![0, 0] S1x1024.size inb_S8x1024_S1x1024_0_0).toLoadRect (harg2.unread x1) = row0 x1 := by rw [View.readAt_eq_ld, harg2.read_unread]
  have e1b : View.readAt (Elt F) arg2.view (Rect.unit (s := S8x1024) ![1, 0] S1x1024.size inb_S8x1024_S1x1024_1_0).toLoadRect (harg2.unread x1) = row1 x1 := by rw [View.readAt_eq_ld, harg2.read_unread]
  have e2 : View.readAt (Elt F) arg3.view (Rect.unit (s := S8x1024) ![0, 0] S1x1024.size inb_S8x1024_S1x1024_0_0).toLoadRect (harg3.unread x2) = row0 x2 := by rw [View.readAt_eq_ld, harg3.read_unread]
  have e2b : View.readAt (Elt F) arg3.view (Rect.unit (s := S8x1024) ![1, 0] S1x1024.size inb_S8x1024_S1x1024_1_0).toLoadRect (harg3.unread x2) = row1 x2 := by rw [View.readAt_eq_ld, harg3.read_unread]
  have e3 : View.readAt (Elt F) arg4.view (Rect.unit (s := S512x1024) ![0, 0] S512x1024.size inb_S512x1024_S512x1024_0_0).toLoadRect (harg4.unread x3) = x3 := (View.readAt_full _ _ _).trans (harg4.read_unread _)
  have e4 : View.readAt (Elt F) arg5.view (Rect.unit (s := S8x512) ![0, 0] S1x512.size inb_S8x512_S1x512_0_0).toLoadRect (harg5.unread x4) = row0' x4 := by rw [View.readAt_eq_ld, harg5.read_unread]
  have e7 : View.readAt (Elt F) arg7.view (Rect.unit (s := S512x1024) ![0, 0] S512x1024.size inb_S512x1024_S512x1024_0_0).toLoadRect (harg7.unread w) = w := (View.readAt_full _ _ _).trans (harg7.read_unread _)
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    repeat (first | unfold run1_later.sl.H5_1 | unfold run1_later.sl.H6_1 | unfold run1_later.sl.H7_1 | unfold run1_later.sl.v31 | unfold run1_later.sl.r | unfold run1_later.sl.r_1 | unfold run1_later.sl.cst_16)
    rw [View.read_writes_full]
    rfl
  iexists _; isplitr; · ipureintro; exact harg7.read_unread _
  iexact H7

set_option maxHeartbeats 1000000 in
/-- The first point: the weights stored, and the block's result from them. -/
theorem run1_first (c : Dev nD) (i : grid1.Coords)
    (arg1 : Memref sig .tc .vmem S2048x1024 .bf16) (harg1 : arg1.IsWhole) (arg2 : Memref sig .tc .vmem S8x1024 .f32) (harg2 : arg2.IsWhole)
    (arg3 : Memref sig .tc .vmem S8x1024 .f32) (harg3 : arg3.IsWhole) (arg4 : Memref sig .tc .vmem S512x1024 .f32) (harg4 : arg4.IsWhole)
    (arg5 : Memref sig .tc .vmem S8x512 .f32) (harg5 : arg5.IsWhole) (arg6 : Memref sig .tc .vmem S2048x512 .f32) (harg6 : arg6.IsWhole)
    (arg7 : Memref sig .tc .vmem S512x1024 .bf16) (harg7 : arg7.IsWhole) (hc : atZero1 i)
    (x0 : Vec F S2048x1024 .bf16) (x1 : Vec F S8x1024 .f32) (x2 : Vec F S8x1024 .f32) (x3 : Vec F S512x1024 .f32) (x4 : Vec F S8x512 .f32) (E : Set ℕ) (K : PUnit → sProp 𝕄) :
    iprop(owns (c : Thread nD τ) arg1 fullShare (x0)
          ∗ owns (c : Thread nD τ) arg2 fullShare (x1)
          ∗ owns (c : Thread nD τ) arg3 fullShare (x2)
          ∗ owns (c : Thread nD τ) arg4 fullShare (x3)
          ∗ owns (c : Thread nD τ) arg5 fullShare (x4)
          ∗ (∃ d, owns (c : Thread nD τ) arg6 fullShare d)
          ∗ (∃ d, owns (c : Thread nD τ) arg7 fullShare d)
        ∗ (iprop(owns (c : Thread nD τ) arg1 fullShare (x0)
          ∗ owns (c : Thread nD τ) arg2 fullShare (x1)
          ∗ owns (c : Thread nD τ) arg3 fullShare (x2)
          ∗ owns (c : Thread nD τ) arg4 fullShare (x3)
          ∗ owns (c : Thread nD τ) arg5 fullShare (x4)
          ∗ owns (c : Thread nD τ) arg6 fullShare (fc2Out x0 x1 x2 x4 (k1_pay2 x3))
          ∗ owns (c : Thread nD τ) arg7 fullShare (k1_pay2 x3)) -∗ K ⟨⟩))
      ⊢ wp frame (wpE (defs₀ (F := F)) Variants.none c none) E (cc1__fc2_kernel i arg1 harg1 arg2 harg2 arg3 harg3 arg4 harg4 arg5 harg5 arg6 harg6 arg7 harg7) K := by
  simp only [cc1__fc2_kernel_eq_skeleton]; unfold cc1__fc2_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d7, %f7, -, H7⟩, Hk⟩
  obtain rfl := harg1.eq_unread hf0; obtain rfl := harg2.eq_unread hf1; obtain rfl := harg3.eq_unread hf2; obtain rfl := harg4.eq_unread hf3
  obtain rfl := harg5.eq_unread hf4
  have e0 : View.readAt (Elt F) arg1.view (Rect.unit (s := S2048x1024) ![0, 0] S2048x1024.size inb_S2048x1024_S2048x1024_0_0).toLoadRect (harg1.unread x0) = x0 := (View.readAt_full _ _ _).trans (harg1.read_unread _)
  have e1 : View.readAt (Elt F) arg2.view (Rect.unit (s := S8x1024) ![0, 0] S1x1024.size inb_S8x1024_S1x1024_0_0).toLoadRect (harg2.unread x1) = row0 x1 := by rw [View.readAt_eq_ld, harg2.read_unread]
  have e1b : View.readAt (Elt F) arg2.view (Rect.unit (s := S8x1024) ![1, 0] S1x1024.size inb_S8x1024_S1x1024_1_0).toLoadRect (harg2.unread x1) = row1 x1 := by rw [View.readAt_eq_ld, harg2.read_unread]
  have e2 : View.readAt (Elt F) arg3.view (Rect.unit (s := S8x1024) ![0, 0] S1x1024.size inb_S8x1024_S1x1024_0_0).toLoadRect (harg3.unread x2) = row0 x2 := by rw [View.readAt_eq_ld, harg3.read_unread]
  have e2b : View.readAt (Elt F) arg3.view (Rect.unit (s := S8x1024) ![1, 0] S1x1024.size inb_S8x1024_S1x1024_1_0).toLoadRect (harg3.unread x2) = row1 x2 := by rw [View.readAt_eq_ld, harg3.read_unread]
  have e3 : View.readAt (Elt F) arg4.view (Rect.unit (s := S512x1024) ![0, 0] S512x1024.size inb_S512x1024_S512x1024_0_0).toLoadRect (harg4.unread x3) = x3 := (View.readAt_full _ _ _).trans (harg4.read_unread _)
  have e4 : View.readAt (Elt F) arg5.view (Rect.unit (s := S8x512) ![0, 0] S1x512.size inb_S8x512_S1x512_0_0).toLoadRect (harg5.unread x4) = row0' x4 := by rw [View.readAt_eq_ld, harg5.read_unread]
  have c7 : ∀ w L, arg7.view.readCov (Val := Elt F) (⟨Rect.unit ![0, 0] S512x1024.size inb_S512x1024_S512x1024_0_0, w⟩ :: L) (Rect.unit ![0, 0] S512x1024.size inb_S512x1024_S512x1024_0_0).toLoadRect = w := fun w L => View.readCov_full _ _ _ w L
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    repeat (first | unfold run1_first.sl.H5_1 | unfold run1_first.sl.H6_1 | unfold run1_first.sl.H7_1 | unfold run1_first.sl.v31 | unfold run1_first.sl.r | unfold run1_first.sl.r_1 | unfold run1_first.sl.cst_16)
    rw [View.read_writes_full]
    rfl
  iexists _; isplitr
  swap; · iexact H7
  ipureintro
  repeat (first | unfold run1_first.sl.H5_1 | unfold run1_first.sl.H6_1 | unfold run1_first.sl.H7_1 | unfold run1_first.sl.v31 | unfold run1_first.sl.r | unfold run1_first.sl.r_1 | unfold run1_first.sl.cst_16)
  rw [View.read_writes_full]

end Cert.KernelIdeal.Hand
-- ==== Proof.Region1.lean ====
module

public import proofs.«01_k».proof.Proof.Body1
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! The second call as a pipeline: what its windows and its scratch buffer hold at every grid point. -/

/-- One of the core's scoped buffers, whole, at some contents. -/
abbrev held1 (c : Dev nD) (b : Ref sig .tc) : sProp 𝕄 := iprop(∃ f : Buf (Elt F) ((c : Thread nD τ).loc b), ((c : Thread nD τ).loc b) ↦{fullShare} f)

/-- The block of window `w` at point `t`, read off its array. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first grid point. -/
abbrev fst1 : Fin cfg1.N := ⟨0, by rw [show cfg1.N = 8 from N_1]; decide⟩

abbrev ms1_0 (t : Fin cfg1.N) : Memref sig .tc .vmem S2048x1024 .bf16 := win1_0.stage (cfg1.slots t 0)
abbrev ms1_1 (t : Fin cfg1.N) : Memref sig .tc .vmem S8x1024 .f32 := win1_1.stage (cfg1.slots t 1)
abbrev ms1_2 (t : Fin cfg1.N) : Memref sig .tc .vmem S8x1024 .f32 := win1_2.stage (cfg1.slots t 2)
abbrev ms1_3 (t : Fin cfg1.N) : Memref sig .tc .vmem S512x1024 .f32 := win1_3.stage (cfg1.slots t 3)
abbrev ms1_4 (t : Fin cfg1.N) : Memref sig .tc .vmem S8x512 .f32 := win1_4.stage (cfg1.slots t 4)
abbrev ms1_5 (t : Fin cfg1.N) : Memref sig .tc .vmem S2048x512 .f32 := win1_5.stage (cfg1.slots t 5)
abbrev sW : Memref sig .tc .vmem S512x1024 .bf16 := Memref.whole cc1_scratch0

/-- The scoped buffers the second call does not use. -/
abbrev others1 (c : Dev nD) : sProp 𝕄 := iprop(held1 (F := F) c cc0_stg0_0 ∗ held1 (F := F) c cc0_stg0_1 ∗ held1 (F := F) c cc0_stg1_0 ∗ held1 (F := F) c cc0_stg2_0 ∗ held1 (F := F) c cc0_stg3_0 ∗ held1 (F := F) c cc0_stg4_0 ∗ held1 (F := F) c cc0_stg5_0 ∗ held1 (F := F) c cc0_stg5_1 ∗ held1 (F := F) c cc0_stg6_0 ∗ held1 (F := F) c cc0_scratch0 ∗ held1 (F := F) c cc0_scratch1)

theorem PhiA1_eq (c : Dev nD) :
    (Pipeline.ΦA spec1 c : sProp 𝕄)
      = iprop(iprop(held1 (F := F) c cc0_stg0_0 ∗ held1 (F := F) c cc0_stg0_1 ∗ held1 (F := F) c cc0_stg1_0 ∗ held1 (F := F) c cc0_stg2_0 ∗ held1 (F := F) c cc0_stg3_0 ∗ held1 (F := F) c cc0_stg4_0 ∗ held1 (F := F) c cc0_stg5_0 ∗ held1 (F := F) c cc0_stg5_1 ∗ held1 (F := F) c cc0_stg6_0 ∗ held1 (F := F) c cc0_scratch0 ∗ held1 (F := F) c cc0_scratch1 ∗ (∃ d, owns (c : Thread nD τ) sW fullShare d)) ∗ (∃ r, prngReg c r)) := by
  unfold Pipeline.ΦA; rw [scopedRest1_eq]; simp only [sW, owns_whole]; try rfl

theorem PhiA1_out (c : Dev nD) : (Pipeline.ΦA spec1 c : sProp 𝕄)
    ⊢ iprop(iprop((∃ d, owns (c : Thread nD τ) sW fullShare d) ∗ others1 (F := F) c) ∗ (∃ r, prngReg c r)) := by
  rw [PhiA1_eq]
  iintro ⟨⟨H0, H1, H2, H3, H4, H5, H6, H7, H8, H9, H10, HS⟩, Hg⟩
  isplitl [H0 H1 H2 H3 H4 H5 H6 H7 H8 H9 H10 HS]
  · isplitl [HS]; · iexact HS
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iexact Hg

theorem PhiA1_in (c : Dev nD) : iprop(iprop((∃ d, owns (c : Thread nD τ) sW fullShare d) ∗ others1 (F := F) c) ∗ (∃ r, prngReg c r))
    ⊢ (Pipeline.ΦA spec1 c : sProp 𝕄) := by
  rw [PhiA1_eq]
  iintro ⟨⟨HS, H0, H1, H2, H3, H4, H5, H6, H7, H8, H9, H10⟩, Hg⟩
  isplitl [H0 H1 H2 H3 H4 H5 H6 H7 H8 H9 H10 HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HS
  iexact Hg

/-- The invariant before position `n`: at first every scoped buffer at anything, afterwards the stored weights in their buffer. -/
def Phi1 (c : Dev nD) : ℕ → sProp 𝕄
  | 0 => Pipeline.ΦA spec1 c
  | _ + 1 => iprop(iprop(owns (c : Thread nD τ) sW fullShare (k1_pay2 (blk1 V c 3 fst1)) ∗ others1 (F := F) c) ∗ (∃ r, prngReg c r))

theorem Phi1_zero (c : Dev nD) (n : ℕ) (h : n = 0) : Phi1 V c n = Pipeline.ΦA spec1 c := by subst h; rfl

theorem Phi1_pos (c : Dev nD) (n : ℕ) (h : n ≠ 0) :
    Phi1 V c n = iprop(iprop(owns (c : Thread nD τ) sW fullShare (k1_pay2 (blk1 V c 3 fst1)) ∗ others1 (F := F) c) ∗ (∃ r, prngReg c r)) := by
  cases n with
  | zero => exact absurd rfl h
  | succ n => rfl

/-- The proof data of the second call's pipeline on core `c`. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => fc2Out (blk1 V c 0 t) (blk1 V c 1 t) (blk1 V c 2 t) (blk1 V c 4 t) (k1_pay2 (blk1 V c 3 fst1))
  Φ t := Phi1 V c t.val
  q _ := fullShare
  owed _ := 0

theorem dat1_A (c : Dev nD) (w : Fin cfg1.W) : (dat1 V c).A w = V c (Pipeline.arrRef spec1 w) := by dsimp only [dat1]
theorem dat1_Phi (c : Dev nD) (t : Fin cfg1.N) : (dat1 V c).Φ t.castSucc = Phi1 V c t.val := by dsimp only [dat1]; rfl

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; rw [dat1_A]) t d).trans
    (by unfold Dat.fetched Dat.blockOf blk1; rw [dat1_A]; try rfl)
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1; rw [dat1_A]) t d).trans
    (by unfold Dat.fetched Dat.blockOf blk1; rw [dat1_A]; try rfl)
theorem before1_2 (c : Dev nD) (t : Fin cfg1.N) (d) : (dat1 V c).before 2 t d = blk1 V c 2 t :=
  ((dat1 V c).before_in_eq_fetched 2 rfl (fun _ => rfl) (fun _ _ _ => rfl) (fun t => by rw [after1_2]; unfold Dat.blockOf blk1; rw [dat1_A]) t d).trans
    (by unfold Dat.fetched Dat.blockOf blk1; rw [dat1_A]; try rfl)
theorem before1_3 (c : Dev nD) (t : Fin cfg1.N) (d) : (dat1 V c).before 3 t d = blk1 V c 3 t :=
  ((dat1 V c).before_in_eq_fetched 3 rfl (fun _ => rfl) (fun _ _ _ => rfl) (fun t => by rw [after1_3]; unfold Dat.blockOf blk1; rw [dat1_A]) t d).trans
    (by unfold Dat.fetched Dat.blockOf blk1; rw [dat1_A]; try rfl)
theorem before1_4 (c : Dev nD) (t : Fin cfg1.N) (d) : (dat1 V c).before 4 t d = blk1 V c 4 t :=
  ((dat1 V c).before_in_eq_fetched 4 rfl (fun _ => rfl) (fun _ _ _ => rfl) (fun t => by rw [after1_4]; unfold Dat.blockOf blk1; rw [dat1_A]) t d).trans
    (by unfold Dat.fetched Dat.blockOf blk1; rw [dat1_A]; try rfl)
theorem after1_5 (c : Dev nD) (t : Fin cfg1.N) : (dat1 V c).after 5 t
    = fc2Out (blk1 V c 0 t) (blk1 V c 1 t) (blk1 V c 2 t) (blk1 V c 4 t) (k1_pay2 (blk1 V c 3 fst1)) := by dsimp only [dat1]

/-- What the body is called with at point `t`, -/
def bodyPre1 (c : Dev nD) (t : Fin cfg1.N) : sProp 𝕄 :=
  iprop((dat1 V c).Φ t.castSucc
    ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ
    ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 6400000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl, after1_0, after1_1, after1_2, after1_3, after1_4, after1_5]
  rw [show (dat1 V c).Φ t.succ = Phi1 V c (t.val + 1) from rfl, Phi1_pos V c _ (Nat.succ_ne_zero _), dat1_Phi]
  by_cases hz : t.val = 0
  · obtain rfl : t = fst1 := Fin.ext hz
    rw [Phi1_zero V c _ hz]
    refine (sep_mono (PhiA1_out c) .rfl).trans ?_
    iintro ⟨⟨⟨HS, HR⟩, Hg⟩, Ho, ⟨%d0, H0⟩, ⟨%d1, H1⟩, ⟨%d2, H2⟩, ⟨%d3, H3⟩, ⟨%d4, H4⟩, ⟨%d5, H5⟩⟩
    iapply (run1_first c (grid1.coords fst1) _ _ _ _ _ _ _ _ _ _ _ _ _ _ ((atZero1_iff fst1).mpr hz) (blk1 V c 0 fst1) (blk1 V c 1 fst1) (blk1 V c 2 fst1) (blk1 V c 3 fst1) (blk1 V c 4 fst1) Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Phi1_pos V c _ hz]
    iintro ⟨⟨⟨HS, HR⟩, Hg⟩, Ho, ⟨%d0, H0⟩, ⟨%d1, H1⟩, ⟨%d2, H2⟩, ⟨%d3, H3⟩, ⟨%d4, H4⟩, ⟨%d5, H5⟩⟩
    iapply (run1_later c (grid1.coords t) _ _ _ _ _ _ _ _ _ _ _ _ _ _ (fun h => hz ((atZero1_iff t).mp h)) (blk1 V c 0 t) (blk1 V c 1 t) (blk1 V c 2 t) (blk1 V c 3 t) (blk1 V c 4 t) _ Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    iexact H5

/-- The invariant before the first point is what the launch hands over, -/
theorem Phi1_in (c : Dev nD) : (dat1 V c).Φ 0 = Pipeline.ΦA spec1 c := rfl

/-- and after the last point it gives the same back. -/
theorem Phi1_out (c : Dev nD) : (dat1 V c).Φ (Fin.last cfg1.N) ⊢ Pipeline.ΦA spec1 c := by
  rw [show (dat1 V c).Φ (Fin.last cfg1.N) = Phi1 V c cfg1.N from rfl, Phi1_pos V c _ (by rw [show cfg1.N = 8 from N_1]; decide)]
  refine BIBase.Entails.trans ?_ (PhiA1_in c)
  iintro ⟨⟨HS, HR⟩, Hg⟩
  isplitl [HS HR]
  · isplitl [HS]; · iexists _; iexact HS
    iexact HR
  iexact Hg

/-- The body table's row of this call. -/
theorem row_eq1 (t : Fin cfg1.N) : defs₀ (F := F) .tc cfg1.body (cfg1.bodyArgs t (cfg1.slots t)) = bodyAt1 t := by
  unfold defs₀; rw [Defs.onTc_tc]

/-- The body obligation of the pipeline, at every point. -/
theorem obligation1 (c : Dev nD) : BodyObligation (dat1 V c) (defs₀ (F := F)) Variants.none () Set.univ := fun t => by
  rw [bigSep_W1, bigSep_W1, row_eq1]
  exact triple_restated (sound_body1 V c t) rfl .rfl fun _ => .rfl

end Cert.KernelIdeal.Hand
-- ==== Proof.Run.lean ====
module

public import proofs.«01_k».proof.Proof.Region0
public import proofs.«01_k».proof.Proof.Region1
public import proofs.«01_k».proof.Proof.Gen.KernelIdeal.Regions
public import Idealize.ShloMosaic.Lib.Pipeline.RegionsLoop
public import Idealize.ShloMosaic.Lib.Pipeline.FrameSuffix
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The whole program as its segments: fifteen host stretches, the first call, a host stretch, the second call. -/

variable (m : (ℓ : Loc nD τ sig) → Buf (Elt F) ℓ) (ρ : Dev nD → PrngReg)

/-- The buffers the first call is entered with. -/
abbrev E15 : (c : Dev nD) → (b : Ref sig .tc) → Buf (Elt F) ((c : Thread nD τ).loc b) := fun c b => V15 m c b

/-- Every unscoped buffer after call 0: its arrays as the pipeline leaves them, the rest as entered. -/
def X16 (c : Dev nD) : Valuation τ sig (Elt F) := Pipeline.withArrays spec0 c (V15 m c) fun w => (dat0 (E15 m) c).arrAt w cfg0.N

theorem X16_arr (c : Dev nD) (w : Fin cfg0.W) : X16 m c (Proc.devRef .tc (Pipeline.arrRef spec0 w)) = (dat0 (E15 m) c).arrAt w cfg0.N := by
  unfold X16; exact Pipeline.withArrays_arr spec0 launch0.win.arr_inj c _ _ w

theorem X16_of_ne (c : Dev nD) (b : Ref sig .tc) (hb : ∀ w, Pipeline.arrRef spec0 w ≠ b) : X16 m c (Proc.devRef .tc b) = V15 m c (Proc.devRef .tc b) := by
  unfold X16; exact Pipeline.withArrays_of_ne spec0 c _ _ b hb

/-- A buffer that is no output of call 0 keeps its contents. -/
theorem X16_of (c : Dev nD) (r : Ref sig .tc) (h : ∀ w : Fin cfg0.W, Pipeline.arrRef spec0 w = r → (cfg0.win w).isOut = false) :
    X16 m c (Proc.devRef .tc r) = V15 m c (Proc.devRef .tc r) := by
  by_cases hw : ∃ w : Fin cfg0.W, Pipeline.arrRef spec0 w = r
  · obtain ⟨w, rfl⟩ := hw
    exact (X16_arr m c w).trans (((dat0 (E15 m) c).arrAt_in w (h w rfl) _).trans (dat0_A (E15 m) c w))
  · exact X16_of_ne m c r fun w e => hw ⟨w, e⟩

abbrev E16 : (c : Dev nD) → (b : Ref sig .tc) → Buf (Elt F) ((c : Thread nD τ).loc b) := fun c b => X16 m c b

/-- Every unscoped buffer after the host stretch between the calls. -/
abbrev X17 (c : Dev nD) : Valuation τ sig (Elt F) := StableHlo.after hostOps1 (X16 m c)

/-- The buffers the second call is entered with. -/
abbrev E17 : (c : Dev nD) → (b : Ref sig .tc) → Buf (Elt F) ((c : Thread nD τ).loc b) := fun c b => X17 m c b

/-- Every unscoped buffer after call 1: its arrays as the pipeline leaves them, the rest as entered. -/
def X18 (c : Dev nD) : Valuation τ sig (Elt F) := Pipeline.withArrays spec1 c (X17 m c) fun w => (dat1 (E17 m) c).arrAt w cfg1.N

theorem X18_arr (c : Dev nD) (w : Fin cfg1.W) : X18 m c (Proc.devRef .tc (Pipeline.arrRef spec1 w)) = (dat1 (E17 m) c).arrAt w cfg1.N := by
  unfold X18; exact Pipeline.withArrays_arr spec1 launch1.win.arr_inj c _ _ w

theorem X18_of_ne (c : Dev nD) (b : Ref sig .tc) (hb : ∀ w, Pipeline.arrRef spec1 w ≠ b) : X18 m c (Proc.devRef .tc b) = X17 m c (Proc.devRef .tc b) := by
  unfold X18; exact Pipeline.withArrays_of_ne spec1 c _ _ b hb

/-- A buffer that is no output of call 1 keeps its contents. -/
theorem X18_of (c : Dev nD) (r : Ref sig .tc) (h : ∀ w : Fin cfg1.W, Pipeline.arrRef spec1 w = r → (cfg1.win w).isOut = false) :
    X18 m c (Proc.devRef .tc r) = X17 m c (Proc.devRef .tc r) := by
  by_cases hw : ∃ w : Fin cfg1.W, Pipeline.arrRef spec1 w = r
  · obtain ⟨w, rfl⟩ := hw
    exact (X18_arr m c w).trans (((dat1 (E17 m) c).arrAt_in w (h w rfl) _).trans (dat1_A (E17 m) c w))
  · exact X18_of_ne m c r fun w e => hw ⟨w, e⟩

abbrev E18 : (c : Dev nD) → (b : Ref sig .tc) → Buf (Elt F) ((c : Thread nD τ).loc b) := fun c b => X18 m c b

/-- A buffer none of the stretches before the first call writes is at its launch contents when the call is entered. -/
theorem V15_kept (c : Dev nD) (r : Ref sig .tc) (h : ∀ l ∈ [hostOps0_W, hostOps0_1_W, hostOps0_2_W, hostOps0_3_W, hostOps0_4_W, hostOps0_5_W, hostOps0_6_W, hostOps0_7_W, hostOps0_8_W, hostOps0_9_W, hostOps0_10_W, hostOps0_11_W, hostOps0_12_W, hostOps0_13_W, hostOps0_14_W], r ∉ l) :
    V15 m c (Proc.devRef .tc r) = m ((c : Thread nD τ).loc r) := by
  simp only [List.forall_mem_cons] at h
  obtain ⟨h0, h1, h2, h3, h4, h5, h6, h7, h8, h9, h10, h11, h12, h13, h14, -⟩ := h
  exact (V15_of m c r h14).trans <| (V14_of m c r h13).trans <| (V13_of m c r h12).trans <| (V12_of m c r h11).trans <| (V11_of m c r h10).trans <| (V10_of m c r h9).trans <| (V9_of m c r h8).trans <| (V8_of m c r h7).trans <| (V7_of m c r h6).trans <| (V6_of m c r h5).trans <| (V5_of m c r h4).trans <| (V4_of m c r h3).trans <| (V3_of m c r h2).trans <| (V2_of m c r h1).trans <| (V1_of m c r h0).trans rfl

/-- A buffer no stretch and no call writes ends as it was at launch. -/
theorem X18_kept (c : Dev nD) (r : Ref sig .tc)
    (h0 : ∀ w : Fin cfg0.W, Pipeline.arrRef spec0 w = r → (cfg0.win w).isOut = false)
    (h1 : ∀ w : Fin cfg1.W, Pipeline.arrRef spec1 w = r → (cfg1.win w).isOut = false)
    (hh : r ∉ hostOps1_W) (hv : V15 m c (Proc.devRef .tc r) = m ((c : Thread nD τ).loc r)) :
    X18 m c (Proc.devRef .tc r) = m ((c : Thread nD τ).loc r) :=
  (X18_of m c r h1).trans ((StableHlo.after_of_writes_sub hostOps1 _ hostOps1_writes hh).trans ((X16_of m c r h0).trans hv))

/-- No pipeline has a prefetched table. -/
abbrev tables : (p : Fin 2) → (pcfgs (F := F) p).Adm := fun p => (cfgs p).toPCfg_adm

/-- The proof data of each call, at its entry contents. -/
def pdats : (p : Fin 2) → (c : Dev nD) → Dat τ (Elt F) Unit ℕ (UR sig nD τ) ℕ (Pipeline.pin (pcfgs (F := F)) tables p) c
  | ⟨0, _⟩ => fun c => dat0 (E15 m) c
  | ⟨1, _⟩ => fun c => dat1 (E17 m) c

abbrev L : GSem nD τ sig → Finset Unit := fun _ => ∅
abbrev lv : GSem nD τ sig → Unit → ℕ := fun _ _ => 0

/-- What every segment carries beside the buffers: the generator register, and nothing owed. -/
abbrev R (c : Dev nD) : sProp 𝕄 := iprop((∃ r, prngReg c r) ∗ ∃ W, owes (c : Thread nD τ) (0 : CellTallies nD τ sig Unit) W)

/-- A host stretch as a segment, entered with the buffers at `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last state: every unscoped buffer at its final contents, and the generator register. -/
abbrev Tend (c : Dev nD) : sProp 𝕄 := iprop(StableHlo.held (c : Thread nD τ) (Pipeline.ucRefs τ sig) (X18 m c) ∗ ∃ r, prngReg c r)

-- the library's lemmas are stated over a pinned configuration, which unification has to unfold in a metavariable's type
set_option backward.isDefEq.respectTransparency.types false in
/-- Call 0 as a segment: entered with every unscoped buffer at `V15`, left with them at `X16`. -/
def reg0 : Pipeline.RegionSeg (pcfgs (F := F)) tables (pdats m) () defs₀ Variants.none L lv 0 where
  win := launch0.win.to₀
  block_pos := launch0.block_pos
  stage_whole := launch0.stage_whole
  K := PEmpty
  osem k := k.elim
  ho := Pipeline.OwnSemFacts.none _
  hbody c := (obligation0 (E15 m) c).loose
  hwaits := Pipeline.hwaits_of_owed_zero _ _ _ _ L lv 0 fun _ _ => rfl
  pre c := iprop(StableHlo.held (c : Thread nD τ) (Pipeline.ucRefs τ sig) (V15 m c) ∗ R c)
  post c := iprop(StableHlo.held (c : Thread nD τ) (Pipeline.ucRefs τ sig) (X16 m c) ∗ R c)
  X c := iprop(∃ r, prngReg c r)
  Y c := iprop(∃ r, prngReg c r)
  Z c := Pipeline.unscopedRest (Ix := Unit) (Name := ℕ) (U := UR sig nD τ) (Lvl := ℕ) spec0 c (E15 m c)
  hentry c := by
    rw [Pipeline.ownSems0_none]
    have hsplit := Pipeline.arrays_of_unscopedBufs (p := 0) (pcfgs (F := F)) tables (pdats m) launch0.win launch0.arr_whole c
      ((pdats m 0 c).share_full fun _ => rfl) (E15 m c) (dat0_A (E15 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine BIBase.Entails.trans (Phi0_out (E15 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tables (Ix := Unit) (Name := ℕ) (U := UR sig nD τ) (Lvl := ℕ)
      launch0.win launch0.arr_whole c (pdats m) ((pdats m 0 c).share_full fun _ => rfl)
      (E15 m c) (E16 m c) ((pdats m 0 c).arrAt · cfg0.N) (fun w => (X16_arr m c w).symm)
      (fun b hb => X16_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over a pinned configuration, which unification has to unfold in a metavariable's type
set_option backward.isDefEq.respectTransparency.types false in
/-- Call 1 as a segment: entered with every unscoped buffer at `X17`, left with them at `X18`. -/
def reg1 : Pipeline.RegionSeg (pcfgs (F := F)) tables (pdats m) () defs₀ Variants.none L lv 1 where
  win := launch1.win.to₀
  block_pos := launch1.block_pos
  stage_whole := launch1.stage_whole
  K := PEmpty
  osem k := k.elim
  ho := Pipeline.OwnSemFacts.none _
  hbody c := (obligation1 (E17 m) c).loose
  hwaits := Pipeline.hwaits_of_owed_zero _ _ _ _ L lv 1 fun _ _ => rfl
  pre c := iprop(StableHlo.held (c : Thread nD τ) (Pipeline.ucRefs τ sig) (X17 m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E17 m c)
  hentry c := by
    rw [Pipeline.ownSems0_none]
    have hsplit := Pipeline.arrays_of_unscopedBufs (p := 1) (pcfgs (F := F)) tables (pdats m) launch1.win launch1.arr_whole c
      ((pdats m 1 c).share_full fun _ => rfl) (E17 m c) (dat1_A (E17 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine BIBase.Entails.trans (Phi1_out (E17 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tables (Ix := Unit) (Name := ℕ) (U := UR sig nD τ) (Lvl := ℕ)
      launch1.win launch1.arr_whole c (pdats m) ((pdats m 1 c).share_full fun _ => rfl)
      (E17 m c) (E18 m c) ((pdats m 1 c).arrAt · cfg1.N) (fun w => (X18_arr m c w).symm)
      (fun b hb => X18_of_ne m c b fun w e => hb (Finset.mem_image.mpr ⟨w, Finset.mem_univ _, e⟩))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's segments in order. -/
abbrev parts : List (Pipeline.Seg (pcfgs (F := F)) tables (pdats m) () defs₀ Variants.none L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .host (hseg hostOps0_6 hostOps0_6_sub hostOps0_6_fresh (V6 m)),
    .host (hseg hostOps0_7 hostOps0_7_sub hostOps0_7_fresh (V7 m)),
    .host (hseg hostOps0_8 hostOps0_8_sub hostOps0_8_fresh (V8 m)),
    .host (hseg hostOps0_9 hostOps0_9_sub hostOps0_9_fresh (V9 m)),
    .host (hseg hostOps0_10 hostOps0_10_sub hostOps0_10_fresh (V10 m)),
    .host (hseg hostOps0_11 hostOps0_11_sub hostOps0_11_fresh (V11 m)),
    .host (hseg hostOps0_12 hostOps0_12_sub hostOps0_12_fresh (V12 m)),
    .host (hseg hostOps0_13 hostOps0_13_sub hostOps0_13_fresh (V13 m)),
    .host (hseg hostOps0_14 hostOps0_14_sub hostOps0_14_fresh (V14 m)),
    .region (reg0 m),
    .host (hseg hostOps1 hostOps1_sub hostOps1_fresh (X16 m)),
    .region (reg1 m) ]

theorem main_parts (c : Dev nD) : main (F := F) c = Pipeline.Seg.run (parts m) := (main_chain c).trans (by chain_rfl)

-- the launch lemma's implicit arguments are found by unfolding plain definitions in a metavariable's type
set_option backward.isDefEq.respectTransparency.types false in
/-- Every execution ends, with every unscoped buffer of every core at `X18` and every counter at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = X18 m c b) ∧ r.2.sem = fun _ => 0) :=
  Pipeline.θ_run_regions_kit_sems (pcfgs (F := F)) tables (pdats m) () cellOf_inj emb₁ defs₀ Variants.none L lv m ρ main (parts m)
    (fun c Q => by rw [main_parts m c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tend m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X18 m c b)
    (hfin := fun c s' => by
      iintro ⟨⟨Hh, -⟩, HSI⟩
      unfold StableHlo.held
      imodintro
      iapply (pointsTo_read_all (Pipeline.ucRefs τ sig) (fun b => (((c : Thread nD τ)).1, b)) (X18 m c) s')
      isplitl [Hh] <;> iassumption)
    (hQ := fun s h hz => ⟨h, funext fun g => hz g (.inr (regions_no_unscoped g.2))⟩)

/-- The result and the arguments of a final state: the result is the second call's output array, the arguments are as launched. -/
theorem run_results : θ_run defs (onTc (τ := τ) (main (F := F))) ⟨m, fun _ => 0, ρ⟩ (fun r => (∀ c : Dev nD,
      r.2.mem ((c.tc : Thread nD τ).loc main_v55) = X18 m c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun s h => ⟨fun c => ⟨h.1 c _ (mem_uc main_v55 (by decide)),
    (h.1 c _ (mem_uc main_arg0 (by decide))).trans (X18_kept m c main_arg0 (by decide) (by decide) (by decide) (V15_kept m c main_arg0 (by decide))),
    (h.1 c _ (mem_uc main_arg1 (by decide))).trans (X18_kept m c main_arg1 (by decide) (by decide) (by decide) (V15_kept m c main_arg1 (by decide))),
    (h.1 c _ (mem_uc main_arg2 (by decide))).trans (X18_kept m c main_arg2 (by decide) (by decide) (by decide) (V15_kept m c main_arg2 (by decide))),
    (h.1 c _ (mem_uc main_arg3 (by decide))).trans (X18_kept m c main_arg3 (by decide) (by decide) (by decide) (V15_kept m c main_arg3 (by decide))),
    (h.1 c _ (mem_uc main_arg4 (by decide))).trans (X18_kept m c main_arg4 (by decide) (by decide) (by decide) (V15_kept m c main_arg4 (by decide))),
    (h.1 c _ (mem_uc main_arg5 (by decide))).trans (X18_kept m c main_arg5 (by decide) (by decide) (by decide) (V15_kept m c main_arg5 (by decide))),
    (h.1 c _ (mem_uc main_arg6 (by decide))).trans (X18_kept m c main_arg6 (by decide) (by decide) (by decide) (V15_kept m c main_arg6 (by decide))),
    (h.1 c _ (mem_uc main_arg7 (by decide))).trans (X18_kept m c main_arg7 (by decide) (by decide) (by decide) (V15_kept m c main_arg7 (by decide))),
    (h.1 c _ (mem_uc main_arg8 (by decide))).trans (X18_kept m c main_arg8 (by decide) (by decide) (by decide) (V15_kept m c main_arg8 (by decide))),
    (h.1 c _ (mem_uc main_arg9 (by decide))).trans (X18_kept m c main_arg9 (by decide) (by decide) (by decide) (V15_kept m c main_arg9 (by decide))),
    (h.1 c _ (mem_uc main_arg10 (by decide))).trans (X18_kept m c main_arg10 (by decide) (by decide) (by decide) (V15_kept m c main_arg10 (by decide)))⟩, h.2⟩) (run m ρ)

end Cert.KernelIdeal.Hand
-- ==== Proof.Transport.lean ====
module

public import proofs.«01_k».proof.Kernel
public import proofs.«01_k».proof.KernelIdeal
public import proofs.«01_k».proof.Proof.Run

@[expose] public section

set_option maxRecDepth 65536
set_option maxHeartbeats 4000000

noncomputable section

/-! The program as compiled and the program over the reals are the same text, as no operation was rewritten. So what is proved of
the one, at any float values, is proved of the other. -/

namespace Cert.Kernel.Hand

open Idealize.ShloMosaic Idealize.ShloMosaic.TcCoe Idealize.SL.Sem

variable {F : FTy → Type} [FloatOps F] [hK : Cert.Kernel.Facts] [hI : Cert.KernelIdeal.Facts]

/-- The two programs' kernel bodies agree. -/
theorem bodies_eq : @Cert.Kernel.defs₀ F _ hK = @Cert.KernelIdeal.defs₀ F _ hI := by
  unfold Cert.Kernel.defs₀ Cert.KernelIdeal.defs₀
  refine congrArg (Defs.onTc (nD := Cert.Kernel.nD) (τ := Cert.Kernel.τ) (sig := Cert.Kernel.sig) (Λ := Cert.Kernel.Λ₀) (Val := Elt F)) ?_
  funext ℓ a
  match ℓ, a with
  | 0, (t, s) => rfl
  | 1, (t, s) => rfl
  | ⟨_ + 2, h⟩, _ => exact absurd h (Nat.not_lt.2 (Nat.le_add_left _ _))

/-- So do their tables of bodies with the pipelines. -/
theorem defs_eq : @Cert.Kernel.defs F _ hK = @Cert.KernelIdeal.defs F _ hI := by
  unfold Cert.Kernel.defs Cert.KernelIdeal.defs
  exact congrArg (Pipeline.defs (Cert.Kernel.pcfgs (F := F))) bodies_eq

/-- And their main functions. -/
theorem main_eq : @Cert.Kernel.main F _ hK = @Cert.KernelIdeal.main F _ hI := rfl

end Cert.Kernel.Hand
-- ==== Proof.Frames.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Transport
public import Idealize.ShloMosaic.Adequacy
public import Idealize.ShloMosaic.Init

@[expose] public section

noncomputable section

/-! The claims that every program ends, leaves its arguments as they were and every counter at zero. -/

namespace Cert.Proof

open Idealize.ShloMosaic Idealize.SL.Sem

/-- The shape facts that the precondition's function states. -/
theorem preFacts : Cert.Pre_usable_inputs.Facts where
  bcast_S_S16384x4x7x7 := by decide
  slices_S11x8_S3x8_0_0 := by decide
  bcast_S_S3x8 := by decide
  slices_S6x8_S3x8_0_0 := by decide
  slices_S4x8_S3x8_0_0 := by decide
  bcast_S_S1024x1568 := by decide
  bcast_S_S1024 := by decide

/-- The kernel over the reals. -/
theorem frame_kernelIdeal : Cert.quiescent_KernelIdeal (hKernelIdeal := Cert.KernelIdeal.Gen.facts) := fun m g _ =>
  (θ_run _ _ _).mono (fun _ h => ⟨fun c => (h.1 c).2, h.2⟩) (Cert.KernelIdeal.Hand.run_results (F := Ideal) m g)

/-- The same under the precondition, which it does not need. -/
theorem frame_kernelIdeal_pre : Cert.quiescent_KernelIdeal_pre_usable_inputs (hKernelIdeal := Cert.KernelIdeal.Gen.facts)
    (hPre_usable_inputs := preFacts) := fun m g _ => frame_kernelIdeal m g trivial

/-- The kernel as compiled: the same text, so the same run at words. -/
theorem frame_kernel : Cert.quiescent_Kernel (hKernel := Cert.Kernel.Gen.facts) := by
  intro m g _
  rw [Cert.Kernel.Hand.defs_eq (hI := Cert.KernelIdeal.Gen.facts), Cert.Kernel.Hand.main_eq (hI := Cert.KernelIdeal.Gen.facts)]
  exact (θ_run _ _ _).mono (fun _ h => ⟨fun c => (h.1 c).2, h.2⟩) (Cert.KernelIdeal.Hand.run_results (F := Bits) m g)

/-- The reference. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run (F := Ideal) m g)

/-- The same under the precondition, which it does not need. -/
theorem frame_reference_pre : Cert.quiescent_ReferenceIdeal_pre_usable_inputs (hReferenceIdeal := Cert.ReferenceIdeal.Gen.facts)
    (hPre_usable_inputs := preFacts) := fun m g _ => frame_reference m g trivial

end Cert.Proof

end
-- ==== Proof.Math.lean ====
module

public import Idealize.ShloMosaic.Lib.IdealHost
public import Idealize.ShloMosaic.Lib.Pointwise

@[expose] public section

noncomputable section

namespace Cert.Value
open Idealize.ShloMosaic

/-! # The arithmetic shared by the two programs -/

/-- The leaky rectifier of both layers. -/
def leaky (s : EReal) : EReal := if 0 ≤ s then s else Ideal.ofBits .f32 1045220557#32 * s

/-- The place of each of the four feature kinds within a cell's group of four entries. -/
def slotOf (c : Nat) : Nat := if c = 0 then 1 else if c = 1 then 0 else c

/-- The feature kind at each of the four places of a cell's group. -/
def kindOf (s : Nat) : Nat := if s < 1 then 1 else if s - 1 < 1 then 0 else s

/-- Entry `e` of row `v` of the embedding table of feature kind `q`. -/
def tabv (x1 : (⟨2, ![11, 8]⟩ : Shape).Idx → EReal) (x2 : (⟨2, ![6, 8]⟩ : Shape).Idx → EReal)
    (x3 : (⟨2, ![3, 8]⟩ : Shape).Idx → EReal) (x4 : (⟨2, ![4, 8]⟩ : Shape).Idx → EReal)
    (q v e : Nat) (hv : v < 3) (he : e < 8) : EReal :=
  if q < 1 then x1 (ix2 (⟨v, by omega⟩ : Fin 11) (⟨e, he⟩ : Fin 8))
  else if q - 1 < 1 then x2 (ix2 (⟨v, by omega⟩ : Fin 6) (⟨e, he⟩ : Fin 8))
  else if q - 1 - 1 < 1 then x3 (ix2 (⟨v, hv⟩ : Fin 3) (⟨e, he⟩ : Fin 8))
  else x4 (ix2 (⟨v, by omega⟩ : Fin 4) (⟨e, he⟩ : Fin 8))

/-! ## Real values among the extended reals -/

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers, taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

theorem slope_real : IsReal (Ideal.ofBits .f32 1045220557#32) := by
  refine ⟨13421773 / 67108864, ?_⟩
  simp [Ideal.ofBits, Ideal.ieee, -EReal.coe_mul]; norm_num

theorem IsReal.leaky {x : EReal} (hx : IsReal x) : IsReal (leaky x) := by
  unfold Value.leaky
  split
  · exact hx
  · exact slope_real.mul hx

/-- A number whose magnitude is below infinity is real. -/
theorem isReal_of_abs {x : EReal} (h : max x (-x) < ⊤) : IsReal x := by
  induction x with
  | bot => simp at h
  | top => simp at h
  | coe r => exact ⟨r, rfl⟩

/-! ## The literals -/

theorem inv_count : Ideal.ofBits .f32 947912704#32 = ((1 / 16384 : ℝ) : EReal) := by
  simp [Ideal.ofBits, Ideal.ieee, -EReal.coe_mul]; norm_num

theorem count : Ideal.ofBits .f32 1182793728#32 = ((16384 : ℝ) : EReal) := by
  simp [Ideal.ofBits, Ideal.ieee, -EReal.coe_mul]; norm_num

theorem eps_pos : ∃ e : ℝ, 0 < e ∧ Ideal.ofBits .f32 925353388#32 = (e : EReal) := by
  refine ⟨10995116 / 1099511627776, by norm_num, ?_⟩
  simp [Ideal.ofBits, Ideal.ieee, -EReal.coe_mul]; norm_num

/-! ## One column of the batch normalisation -/

/-- The mean of the squares less the square of the mean is the mean of the squared deviations. -/
theorem variance_eq (a : Fin 16384 → ℝ) :
    (∑ b, a b * a b) * (1 / 16384) - (∑ b, a b) * (1 / 16384) * ((∑ b, a b) * (1 / 16384))
      = (∑ b, (a b - (∑ b, a b) * (1 / 16384)) * (a b - (∑ b, a b) * (1 / 16384))) * (1 / 16384) := by
  generalize hs : ∑ b, a b = s
  have h : ∀ b, (a b - s * (1 / 16384)) * (a b - s * (1 / 16384))
      = a b * a b - 2 * (s * (1 / 16384)) * a b + s * (1 / 16384) * (s * (1 / 16384)) := fun b => by ring
  simp only [h]
  rw [Finset.sum_add_distrib, Finset.sum_sub_distrib, ← Finset.mul_sum, hs, Finset.sum_const, Finset.card_univ, Fintype.card_fin]
  simp only [nsmul_eq_mul]
  push_cast
  ring

/-- Scaling and shifting by precomputed coefficients is normalising, where the column and the gain are real. -/
theorem norm_eq (a : Fin 16384 → EReal) (g β : EReal) (i : Fin 16384) (ha : ∀ b, IsReal (a b)) (hg : IsReal g) :
    a i * (g * Ideal.rsqrt ((∑ b, a b * a b) * Ideal.ofBits .f32 947912704#32
        - (∑ b, a b) * Ideal.ofBits .f32 947912704#32 * ((∑ b, a b) * Ideal.ofBits .f32 947912704#32)
        + Ideal.ofBits .f32 925353388#32))
      + (β - (∑ b, a b) * Ideal.ofBits .f32 947912704#32
        * (g * Ideal.rsqrt ((∑ b, a b * a b) * Ideal.ofBits .f32 947912704#32
        - (∑ b, a b) * Ideal.ofBits .f32 947912704#32 * ((∑ b, a b) * Ideal.ofBits .f32 947912704#32)
        + Ideal.ofBits .f32 925353388#32)))
    = Ideal.div (a i - Ideal.div (∑ b, a b) (Ideal.ofBits .f32 1182793728#32))
        (Ideal.sqrt (Ideal.div (∑ b, (a b - Ideal.div (∑ b, a b) (Ideal.ofBits .f32 1182793728#32))
            * (a b - Ideal.div (∑ b, a b) (Ideal.ofBits .f32 1182793728#32))) (Ideal.ofBits .f32 1182793728#32)
          + Ideal.ofBits .f32 925353388#32)) * g + β := by
  choose r hr using ha
  obtain ⟨γ, rfl⟩ := hg
  obtain rfl : a = fun b => (r b : EReal) := funext hr
  obtain ⟨e, he, hee⟩ := eps_pos
  rw [inv_count, count, hee]
  have hv := variance_eq r
  simp only [Ideal.div_coe (show (16384 : ℝ) ≠ 0 by norm_num), ← EReal.coe_mul, ← coe_sum, ← EReal.coe_sub, ← EReal.coe_add]
  rw [hv]
  have hpos : 0 < (∑ b, (r b - (∑ b, r b) * (1 / 16384)) * (r b - (∑ b, r b) * (1 / 16384))) * (1 / 16384) + e := by
    have : 0 ≤ ∑ b, (r b - (∑ b, r b) * (1 / 16384)) * (r b - (∑ b, r b) * (1 / 16384)) :=
      Finset.sum_nonneg fun b _ => mul_self_nonneg _
    exact add_pos_of_nonneg_of_pos (mul_nonneg this (by norm_num)) he
  generalize (∑ b, (r b - (∑ b, r b) * (1 / 16384)) * (r b - (∑ b, r b) * (1 / 16384))) * (1 / 16384) + e = w at hpos ⊢
  generalize (∑ b, r b) * (1 / 16384) = μ
  rw [Ideal.rsqrt_coe, if_neg (not_lt.mpr hpos.le), if_neg hpos.ne', Ideal.sqrt_coe, if_neg (not_lt.mpr hpos.le),
    Ideal.div_coe (Real.sqrt_pos.mpr hpos).ne']
  rw [sub_eq_add_neg, add_comm β, ← add_assoc, ← EReal.coe_mul, ← EReal.coe_mul, ← EReal.coe_mul, ← EReal.coe_neg, ← EReal.coe_add,
    ← EReal.coe_mul, ← EReal.coe_mul]
  refine congrArg (fun z : ℝ => (z : EReal) + β) ?_
  rw [one_div]
  ring

/-! ## The selection -/

/-- A product with a one-hot row picks one column for every entry of the summed-over axis. -/
theorem select_sum (hot : Fin 640 → EReal) (W E : Fin 1568 → EReal) (g : Fin 1568 → Fin 640 → EReal) (pick : Fin 1568 → Fin 640)
    (h01 : ∀ k, hot k = 0 ∨ hot k = 1) (hne : ∀ d k, k ≠ pick d → hot k = 0 ∨ g d k = 0)
    (heq : ∀ d, hot (pick d) = 1 ∧ g d (pick d) = E d) :
    ∑ k, hot k * ∑ d, W d * g d k = ∑ d, E d * W d := by
  have h : ∀ k, hot k * ∑ d, W d * g d k = ∑ d, hot k * (W d * g d k) := by
    intro k
    rcases h01 k with h | h <;> rw [h]
    · simp
    · simp
  rw [Finset.sum_congr rfl fun k _ => h k, Finset.sum_comm]
  refine Finset.sum_congr rfl fun d _ => ?_
  rw [Finset.sum_eq_single (pick d)]
  · rw [(heq d).1, (heq d).2, one_mul, mul_comm]
  · intro k _ hk
    rcases hne d k hk with h | h <;> rw [h] <;> simp
  · exact fun h => absurd (Finset.mem_univ _) h

/-- A comparison's one-bit answer, widened and read as a number. -/
theorem ind {n : Nat} (a b : BitVec n) :
    (FloatOps.sitofp (F := Ideal) .f32 (BitVec.setWidth 32 (IntOp.cmpi .eq a b)) : EReal) = if a = b then 1 else 0 := by
  show (((BitVec.setWidth 32 (IntOp.cmpi .eq a b)).toInt : ℝ) : EReal) = _
  by_cases h : a = b
  · rw [if_pos h, show IntOp.cmpi .eq a b = 1#1 by simp [IntOp.cmpi, h]]
    rw [show (BitVec.setWidth 32 1#1).toInt = 1 by decide]
    simp
  · rw [if_neg h, show IntOp.cmpi .eq a b = 0#1 by simp [IntOp.cmpi, beq_eq_false_iff_ne.mpr h]]
    rw [show (BitVec.setWidth 32 0#1).toInt = 0 by decide]
    simp

end Cert.Value
-- ==== Proof.Host.lean ====
module

public import proofs.«01_k».proof.Proof.Run
public import proofs.«01_k».proof.Proof.Math
public import Idealize.ShloMosaic.Lib.Pointwise
public import Idealize.ShloMosaic.Lib.StableHlo.ReadAt

@[expose] public section

set_option maxRecDepth 65536
set_option maxHeartbeats 1000000

noncomputable section

namespace Cert.KernelIdeal.Hand
open Cert.KernelIdeal Cert.KernelIdeal.Gen Cert.Value
open Idealize.ShloMosaic Idealize.ShloMosaic.TcCoe

variable (m : (ℓ : Loc nD τ sig) → Buf (Elt Ideal) ℓ)

/-- Row 0 of the column pattern: which table column a column of the one-hot matrix stands for. -/
theorem pat_row0 (c : Dev nD) (k : Fin 640) : V15 m c (Proc.devRef .tc main_v44) (ix2 (0 : Fin 8) k) =
    BitVec.ofNat 32 (if k.val < 588 then k.val / 196 * 4 + k.val / 49 % 4 else 16) := by
  simp only [V15, V14, V13,V12,V11,V10,V9,V8,V7,V6,V5,V4,V3,V2,V1]
  after_reads_at
  simp only [StableHlo.unary_result, StableHlo.nullary_result, StableHlo.upto, List.take]
  after_reads_at
  revert k
  decide +kernel
/-- Row 1 of the column pattern: the cell a column of the one-hot matrix stands for. -/
theorem pat_row1 (c : Dev nD) (k : Fin 640) : V15 m c (Proc.devRef .tc main_v44) (ix2 (1 : Fin 8) k) =
    BitVec.ofNat 32 (k.val % 49) := by
  simp only [V15, V14, V13,V12,V11,V10,V9,V8,V7,V6,V5,V4,V3,V2,V1]
  after_reads_at
  simp only [StableHlo.unary_result, StableHlo.nullary_result, StableHlo.upto, List.take]
  after_reads_at
  revert k
  decide +kernel

/-- Gathering rows of a 4 by 4 matrix by the slot permutation reads the permuted row. -/
theorem gidx (a b : Fin 4) (idx : IVec S4x1 32)
    (h : ∀ j : Fin 4, idx (ix2 j (0 : Fin 1)) = BitVec.ofNat 32 (slotOf j.val)) :
    gather_S4x4_S4x1_S4x4_1_0_n_n_0_1_14.operandIdx (ix2 a b) idx = ix2 (⟨slotOf a.val, by unfold slotOf; split <;> [skip; split] <;> omega⟩ : Fin 4) b := by
  have : idx = fun i => BitVec.ofNat 32 (slotOf (i 0).val) := by
    funext i
    obtain ⟨j, z, rfl⟩ : ∃ (j : Fin 4) (z : Fin 1), i = ix2 j z := ⟨i 0, i 1, ValueIdx.eq_ix2 i⟩
    obtain rfl : z = 0 := Subsingleton.elim _ _
    exact h j
  subst this
  revert a b
  decide +kernel

/-- A one-bit word as a number. -/
theorem uind (p : Prop) [Decidable p] (b : BitVec 1) (h : b = if p then 1#1 else 0#1) :
    (FloatOps.uitofp (F := Ideal) .f32 b : EReal) = if p then 1 else 0 := by
  subst h
  by_cases hp : p
  · rw [if_pos hp, if_pos hp]
    show (((1#1).toNat : ℝ) : EReal) = 1
    simp
  · rw [if_neg hp, if_neg hp]
    show (((0#1).toNat : ℝ) : EReal) = 0
    simp

/-- The permuted embedding matrix the first call is entered with: a table entry in the row of its slot, zero in the other
    three rows of the group. -/
theorem m2d_apply (c : Dev nD) (k : Fin 32) (r : Fin 32) (hk : k.val < 12) : V15 m c (Proc.devRef .tc main_v29) (ix2 r k) =
    tabv (V0 m c (Proc.devRef .tc main_arg1)) (V0 m c (Proc.devRef .tc main_arg2)) (V0 m c (Proc.devRef .tc main_arg3))
      (V0 m c (Proc.devRef .tc main_arg4)) (k.val % 4) (k.val / 4) (r.val / 4) (by omega) (by omega)
      * (if r.val % 4 = slotOf (k.val % 4) then 1 else 0) := by
  simp only [V15, V14, V13,V12,V11,V10,V9,V8,V7,V6,V5,V4,V3,V2,V1]
  after_reads_at
  simp only [StableHlo.unary_result, StableHlo.nullary_result, StableHlo.upto, List.take]
  after_reads_at
  have h1 : k.val < 16 := by omega
  have h2 : k.val % 4 < 4 ∧ k.val / 4 < 3 ∧ r.val / 4 < 8 := by omega
  refine (dif_pos h1).trans ?_
  refine congrArg₂ HMul.hMul ((dif_pos h2).trans rfl) ?_
  refine (congrArg _ (gidx _ _ _ (by decide +kernel))).trans ?_
  refine uind _ _ ?_
  have key : ∀ a b : Fin 4, IntOp.cmpi .eq (IntOp.addi (BitVec.ofNat 32 (slotOf a.val)) 0#32) (BitVec.ofNat 32 b.val)
      = if b.val = slotOf a.val then 1#1 else 0#1 := by decide +kernel
  exact key ⟨k.val % 4, by omega⟩ ⟨r.val % 4, by omega⟩

/-- Row 0 of the padded bias of the first layer. -/
theorem b1_row0 (c : Dev nD) (k : Fin 1024) : V15 m c (Proc.devRef .tc main_v46) (ix2 (0 : Fin 8) k)
    = V0 m c (Proc.devRef .tc main_arg6) (ix1 k) := by
  simp only [V15, V14, V13,V12,V11,V10,V9,V8,V7,V6,V5,V4,V3,V2,V1]
  after_reads_at
  try simp only [StableHlo.unary_result, StableHlo.nullary_result, StableHlo.upto, List.take]
  try after_reads_at
  try trace_state
  try rfl

/-- Row 0 of the scale and shift rows of the second call: the batch normalisation's gain. -/
theorem gb_row0 (c : Dev nD) (k : Fin 1024) : X17 m c (Proc.devRef .tc main_v51) (ix2 (0 : Fin 8) k)
    = X16 m c (Proc.devRef .tc main_arg7) (ix1 k) := by
  simp only [X17]
  after_reads_at
  try simp only [StableHlo.unary_result, StableHlo.nullary_result, StableHlo.upto, List.take]
  try after_reads_at
  try trace_state
  try rfl

/-- Row 1 of the scale and shift rows of the second call: the batch normalisation's offset. -/
theorem gb_row1 (c : Dev nD) (k : Fin 1024) : X17 m c (Proc.devRef .tc main_v51) (ix2 (1 : Fin 8) k)
    = X16 m c (Proc.devRef .tc main_arg8) (ix1 k) := by
  simp only [X17]
  after_reads_at
  try simp only [StableHlo.unary_result, StableHlo.nullary_result, StableHlo.upto, List.take]
  try after_reads_at
  try trace_state
  try rfl

/-- Row 0 of the padded bias of the second layer. -/
theorem b2_row0 (c : Dev nD) (k : Fin 512) : X17 m c (Proc.devRef .tc main_v54) (ix2 (0 : Fin 8) k)
    = X16 m c (Proc.devRef .tc main_arg10) (ix1 k) := by
  simp only [X17]
  after_reads_at
  try simp only [StableHlo.unary_result, StableHlo.nullary_result, StableHlo.upto, List.take]
  try after_reads_at
  try trace_state
  try rfl

end Cert.KernelIdeal.Hand
-- ==== Proof.Value0.lean ====
module

public import proofs.«01_k».proof.Proof.Run
public import proofs.«01_k».proof.Proof.Math
public import Idealize.ShloMosaic.Lib.Pipeline.Value

@[expose] public section

set_option maxRecDepth 65536
set_option maxHeartbeats 1000000

noncomputable section

namespace Cert.KernelIdeal.Hand
open Cert.KernelIdeal Cert.KernelIdeal.Gen Cert.Value
open Idealize.ShloMosaic Idealize.ShloMosaic.TcCoe

/-! # The first call at an index -/

theorem row0_apply (x : S8x1024.Idx → EReal) (k : Fin 1024) : row0 (F := Ideal) x (ix2 (0 : Fin 1) k) = x (ix2 (0 : Fin 8) k) := by
  refine congrArg x ?_
  funext a
  match a with
  | ⟨0, _⟩ => exact Fin.ext (by show 0 + 1 * 0 = 0; rfl)
  | ⟨1, _⟩ => exact Fin.ext (by show 0 + 1 * k.val = k.val; omega)

theorem patM_apply (x : S8x640.Idx → BitVec 32) (k : Fin 640) : patM (F := Ideal) x (ix2 (0 : Fin 1) k) = x (ix2 (0 : Fin 8) k) := by
  refine congrArg x ?_
  funext a
  match a with
  | ⟨0, _⟩ => exact Fin.ext (by show 0 + 1 * 0 = 0; rfl)
  | ⟨1, _⟩ => exact Fin.ext (by show 0 + 1 * k.val = k.val; omega)

theorem patH_apply (x : S8x640.Idx → BitVec 32) (k : Fin 640) : patH (F := Ideal) x (ix2 (0 : Fin 1) k) = x (ix2 (1 : Fin 8) k) := by
  refine congrArg x ?_
  funext a
  match a with
  | ⟨0, _⟩ => exact Fin.ext (by show 1 + 1 * 0 = 1; rfl)
  | ⟨1, _⟩ => exact Fin.ext (by show 0 + 1 * k.val = k.val; omega)

theorem select_eq {n : Nat} (a b : BitVec n) (u w : EReal) : Scalar.select (IntOp.cmpi .eq a b) u w = if a = b then u else w := by
  by_cases h : a = b
  · rw [if_pos h, show IntOp.cmpi .eq a b = 1#1 by simp [IntOp.cmpi, h]]
    rfl
  · rw [if_neg h, show IntOp.cmpi .eq a b = 0#1 by simp [IntOp.cmpi, beq_eq_false_iff_ne.mpr h]]
    rfl

theorem ofNat_inj {a b : Nat} (ha : a < 4096) (hb : b < 4096) : BitVec.ofNat 32 a = BitVec.ofNat 32 b ↔ a = b := by
  constructor
  · intro h
    have := congrArg BitVec.toNat h
    rw [BitVec.toNat_ofNat, BitVec.toNat_ofNat, Nat.mod_eq_of_lt (by omega), Nat.mod_eq_of_lt (by omega)] at this
    exact this
  · rintro rfl
    rfl

/-- The expansion matrix: a column holds one column of the permuted tables, in the rows of the column's cell. -/
theorem gOf_apply (x1 : S32x32.Idx → EReal) (x2 : S8x640.Idx → BitVec 32) (d : Fin 1568) (k : Fin 640) (col cell : Nat) (hc : col < 12)
    (hh : cell < 49) (hM : x2 (ix2 (0 : Fin 8) k) = BitVec.ofNat 32 col) (hH : x2 (ix2 (1 : Fin 8) k) = BitVec.ofNat 32 cell) :
    gOf (F := Ideal) x1 x2 (ix2 d k) = if d.val / 32 = cell then x1 (ix2 (⟨d.val % 32, by omega⟩ : Fin 32) (⟨col, by omega⟩ : Fin 32)) else 0 := by
  have eM := (patM_apply x2 k).trans hM
  have eH := (patH_apply x2 k).trans hH
  unfold gOf
  generalize patM (F := Ideal) x2 = M at eM ⊢
  generalize patH (F := Ideal) x2 = H at eH ⊢
  unfold k0_pay14 k0_pay13 k0_pay12 k0_pay11 k0_pay10 k0_pay9 k0_pay8 k0_pay7 k0_pay6 k0_pay5 k0_pay4 k0_pay3
  pointwise
  rw [eM, eH, select_eq]
  simp only [ind]
  have hi : (BitVec.ofNat 32 (d.val / 32) = BitVec.ofNat 32 cell) = (d.val / 32 = cell) := propext (ofNat_inj (by omega) (by omega))
  simp only [hi]
  refine if_congr Iff.rfl ?_ rfl
  clear eM eH hM hH hi
  interval_cases col <;> simp

/-- The fused table: a first-layer weight row against a column of the expansion matrix. -/
theorem vtOf_apply (x1 : S32x32.Idx → EReal) (x2 : S8x640.Idx → BitVec 32) (x3 : S1024x1568.Idx → EReal) (o : Fin 1024) (k : Fin 640) :
    vtOf (F := Ideal) x1 x2 x3 (ix2 o k) = ∑ d : Fin 1568, x3 (ix2 o d) * gOf (F := Ideal) x1 x2 (ix2 d k) := by
  unfold vtOf
  generalize gOf (F := Ideal) x1 x2 = g
  unfold k0_pay15
  pointwise

/-- A board's one-hot row. -/
def hot (y : Fin 4 → Fin 7 → Fin 7 → BitVec 32) (j : Fin 640) : EReal :=
  if j.val < 588 then (if y ⟨j.val / 49 % 4, by omega⟩ ⟨j.val / 7 % 7, by omega⟩ ⟨j.val % 7, by omega⟩ = BitVec.ofNat 32 (j.val / 196) then 1 else 0)
  else 0

/-- The first layer's activation from a one-hot row. -/
theorem act_apply (x0 : S1024x4x7x7.Idx → BitVec 32) (vt : S1024x640.Idx → EReal) (b : S1x1024.Idx → EReal) (r k : Fin 1024) :
    k0_pay16 (F := Ideal) x0 vt b (ix2 r k)
      = leaky (∑ j : Fin 640, hot (fun q u w => x0 (ix4 r q u w)) j * vt (ix2 k j) + b (ix2 (0 : Fin 1) k)) := by
  unfold k0_pay16
  pointwise
  show leaky _ = leaky _
  refine congrArg leaky (congrArg₂ (· + ·) (Finset.sum_congr rfl fun j _ => congrArg₂ (· * ·) ?_ rfl) rfl)
  simp only [ind]
  unfold hot
  by_cases h1 : j.val < 196
  · rw [dif_pos h1, if_pos (show j.val < 588 by omega)]
    have e1 : j.val / 196 = 0 := by omega
    have e2 : (⟨j.val / 49, by omega⟩ : Fin 4) = ⟨j.val / 49 % 4, by omega⟩ := Fin.ext (by show j.val / 49 = j.val / 49 % 4; omega)
    rw [e1, e2]
  · rw [dif_neg h1]
    by_cases h2 : j.val - 196 < 196
    · rw [dif_pos h2, if_pos (show j.val < 588 by omega)]
      have e1 : j.val / 196 = 1 := by omega
      have e2 : (⟨(j.val - 196) / 49, by omega⟩ : Fin 4) = ⟨j.val / 49 % 4, by omega⟩ := Fin.ext (by show (j.val - 196) / 49 = j.val / 49 % 4; omega)
      have e3 : (⟨(j.val - 196) / 7 % 7, by omega⟩ : Fin 7) = ⟨j.val / 7 % 7, by omega⟩ := Fin.ext (by show (j.val - 196) / 7 % 7 = j.val / 7 % 7; omega)
      have e4 : (⟨(j.val - 196) % 7, by omega⟩ : Fin 7) = ⟨j.val % 7, by omega⟩ := Fin.ext (by show (j.val - 196) % 7 = j.val % 7; omega)
      rw [e1, e2, e3, e4]
    · rw [dif_neg h2]
      by_cases h3 : j.val - 196 - 196 < 196
      · rw [dif_pos h3, if_pos (show j.val < 588 by omega)]
        have e1 : j.val / 196 = 2 := by omega
        have e2 : (⟨(j.val - 196 - 196) / 49, by omega⟩ : Fin 4) = ⟨j.val / 49 % 4, by omega⟩ := Fin.ext (by show (j.val - 196 - 196) / 49 = j.val / 49 % 4; omega)
        have e3 : (⟨(j.val - 196 - 196) / 7 % 7, by omega⟩ : Fin 7) = ⟨j.val / 7 % 7, by omega⟩ := Fin.ext (by show (j.val - 196 - 196) / 7 % 7 = j.val / 7 % 7; omega)
        have e4 : (⟨(j.val - 196 - 196) % 7, by omega⟩ : Fin 7) = ⟨j.val % 7, by omega⟩ := Fin.ext (by show (j.val - 196 - 196) % 7 = j.val % 7; omega)
        rw [e1, e2, e3, e4]
      · rw [dif_neg h3, if_neg (show ¬ j.val < 588 by omega)]

theorem fc1Act_apply (x0 : S1024x4x7x7.Idx → BitVec 32) (x4 : S8x1024.Idx → EReal) (vt : S1024x640.Idx → EReal) (r k : Fin 1024) :
    fc1Act (F := Ideal) x0 x4 vt (ix2 r k)
      = leaky (∑ j : Fin 640, hot (fun q u w => x0 (ix4 r q u w)) j * vt (ix2 k j) + x4 (ix2 (0 : Fin 8) k)) := by
  unfold fc1Act
  rw [act_apply, row0_apply]

theorem fc1Out_apply (x0 : S1024x4x7x7.Idx → BitVec 32) (x4 : S8x1024.Idx → EReal) (vt : S1024x640.Idx → EReal) (r k : Fin 1024) :
    fc1Out (F := Ideal) x0 x4 vt (ix2 r k) = fc1Act (F := Ideal) x0 x4 vt (ix2 r k) := by
  unfold fc1Out fc1Act
  generalize row0 (F := Ideal) x4 = b
  unfold k0_pay17
  pointwise

theorem fc1Sum_apply (x0 : S1024x4x7x7.Idx → BitVec 32) (x4 : S8x1024.Idx → EReal) (vt : S1024x640.Idx → EReal) (k : Fin 1024) :
    fc1Sum (F := Ideal) x0 x4 vt (ix2 (0 : Fin 1) k) = ∑ r : Fin 1024, fc1Act (F := Ideal) x0 x4 vt (ix2 r k) := by
  unfold fc1Sum fc1Act
  generalize row0 (F := Ideal) x4 = b
  unfold k0_pay18
  pointwise

/-- The first row of the statistics gains the column sums. -/
theorem stats_row0 (x0 : S1024x4x7x7.Idx → BitVec 32) (x4 : S8x1024.Idx → EReal) (vt : S1024x640.Idx → EReal) (acc : S8x1024.Idx → EReal) (k : Fin 1024) :
    fc1Stats (F := Ideal) x0 x4 vt acc (ix2 (0 : Fin 8) k)
      = acc (ix2 (0 : Fin 8) k) + ∑ r : Fin 1024, fc1Act (F := Ideal) x0 x4 vt (ix2 r k) := by
  have h := fc1Sum_apply x0 x4 vt k
  unfold fc1Stats
  generalize fc1Act (F := Ideal) x0 x4 vt = a at h ⊢
  generalize fc1Sum (F := Ideal) x0 x4 vt = s at h ⊢
  rw [← h]
  unfold k0_pay2
  pointwise

/-- The second row of the statistics gains the column sums of the squares. -/
theorem stats_row1 (x0 : S1024x4x7x7.Idx → BitVec 32) (x4 : S8x1024.Idx → EReal) (vt : S1024x640.Idx → EReal) (acc : S8x1024.Idx → EReal) (k : Fin 1024) :
    fc1Stats (F := Ideal) x0 x4 vt acc (ix2 (1 : Fin 8) k)
      = acc (ix2 (1 : Fin 8) k) + ∑ r : Fin 1024, fc1Act (F := Ideal) x0 x4 vt (ix2 r k) * fc1Act (F := Ideal) x0 x4 vt (ix2 r k) := by
  unfold fc1Stats
  generalize fc1Act (F := Ideal) x0 x4 vt = a
  generalize fc1Sum (F := Ideal) x0 x4 vt = s
  unfold k0_pay2
  pointwise

theorem zero_stats (r : Fin 8) (k : Fin 1024) : k0_pay1 (F := Ideal) (ix2 r k) = (0 : EReal) := by
  unfold k0_pay1
  pointwise

end Cert.KernelIdeal.Hand
-- ==== Proof.Arrays0.lean ====
module

public import proofs.«01_k».proof.Proof.Value0

@[expose] public section

set_option maxRecDepth 65536
set_option maxHeartbeats 1000000

noncomputable section

namespace Cert.KernelIdeal.Hand
open Cert.KernelIdeal Cert.KernelIdeal.Gen Cert.Value
open Idealize.ShloMosaic Idealize.ShloMosaic.TcCoe
open Idealize.ShloMosaic.Pipeline (Dat)

/-! # The arrays the first call leaves -/

variable (V : (c : Dev nD) → (b : Ref sig .tc) → Buf (Elt Ideal) ((c : Thread nD τ).loc b))

/-- Where each block of the first call begins. -/
theorem idx0_facts : ∀ t : Fin cfg0.N, win0_0.index t (0 : Fin 4) = t.val ∧ win0_0.index t (1 : Fin 4) = 0 ∧ win0_0.index t (2 : Fin 4) = 0
    ∧ win0_0.index t (3 : Fin 4) = 0 ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

theorem lt16 (t : Fin cfg0.N) : t.val < 16 := lt_of_lt_of_eq t.isLt (show cfg0.N = 16 from N_0)

/-- Block `t` of the boards. -/
theorem boards_apply (c : Dev nD) (t : Fin cfg0.N) (r : Fin 1024) (q : Fin 4) (u w : Fin 7) :
    (blk0 V c 0 t : S1024x4x7x7.Idx → BitVec 32) (ix4 r q u w)
      = (V c main_arg0 : S16384x4x7x7.Idx → BitVec 32) (ix4 (⟨t.val * 1024 + r.val, by have := lt16 t; omega⟩ : Fin 16384) q u w) := by
  obtain ⟨e0, e1, e2, e3, -⟩ := idx0_facts t
  show (V c main_arg0 : S16384x4x7x7.Idx → BitVec 32) (((cfg0.win 0).blk t).view.emb (ix4 r q u w)) = _
  refine congrArg (V c main_arg0 : S16384x4x7x7.Idx → BitVec 32) ?_
  funext a
  match a with
  | ⟨0, _⟩ => exact Fin.ext (by show win0_0.index t (0 : Fin 4) * 1024 + 1 * r.val = t.val * 1024 + r.val; rw [e0]; omega)
  | ⟨1, _⟩ => exact Fin.ext (by show win0_0.index t (1 : Fin 4) * 4 + 1 * q.val = q.val; rw [e1]; omega)
  | ⟨2, _⟩ => exact Fin.ext (by show win0_0.index t (2 : Fin 4) * 7 + 1 * u.val = u.val; rw [e2]; omega)
  | ⟨3, _⟩ => exact Fin.ext (by show win0_0.index t (3 : Fin 4) * 7 + 1 * w.val = w.val; rw [e3]; omega)

theorem tables_apply (c : Dev nD) (t : Fin cfg0.N) (r k : Fin 32) :
    (blk0 V c 1 t : S32x32.Idx → EReal) (ix2 r k) = (V c main_v29 : S32x32.Idx → EReal) (ix2 r k) := by
  obtain ⟨-, -, -, -, -, -, -, -, -, -, e0, e1, -⟩ := idx0_facts t
  show (V c main_v29 : S32x32.Idx → EReal) (((cfg0.win 1).blk t).view.emb (ix2 r k)) = _
  refine congrArg (V c main_v29 : S32x32.Idx → EReal) ?_
  funext a
  match a with
  | ⟨0, _⟩ => exact Fin.ext (by show win0_1.index t (0 : Fin 2) * 32 + 1 * r.val = r.val; rw [e0]; omega)
  | ⟨1, _⟩ => exact Fin.ext (by show win0_1.index t (1 : Fin 2) * 32 + 1 * k.val = k.val; rw [e1]; omega)

theorem pattern_apply (c : Dev nD) (t : Fin cfg0.N) (r : Fin 8) (k : Fin 640) :
    (blk0 V c 2 t : S8x640.Idx → BitVec 32) (ix2 r k) = (V c main_v44 : S8x640.Idx → BitVec 32) (ix2 r k) := by
  obtain ⟨-, -, -, -, -, -, -, -, -, -, -, -, e0, e1, -⟩ := idx0_facts t
  show (V c main_v44 : S8x640.Idx → BitVec 32) (((cfg0.win 2).blk t).view.emb (ix2 r k)) = _
  refine congrArg (V c main_v44 : S8x640.Idx → BitVec 32) ?_
  funext a
  match a with
  | ⟨0, _⟩ => exact Fin.ext (by show win0_2.index t (0 : Fin 2) * 8 + 1 * r.val = r.val; rw [e0]; omega)
  | ⟨1, _⟩ => exact Fin.ext (by show win0_2.index t (1 : Fin 2) * 640 + 1 * k.val = k.val; rw [e1]; omega)

theorem weights_apply (c : Dev nD) (t : Fin cfg0.N) (r : Fin 1024) (k : Fin 1568) :
    (blk0 V c 3 t : S1024x1568.Idx → EReal) (ix2 r k) = (V c main_arg5 : S1024x1568.Idx → EReal) (ix2 r k) := by
  obtain ⟨-, -, -, -, -, -, -, -, -, -, -, -, -, -, e0, e1⟩ := idx0_facts t
  show (V c main_arg5 : S1024x1568.Idx → EReal) (((cfg0.win 3).blk t).view.emb (ix2 r k)) = _
  refine congrArg (V c main_arg5 : S1024x1568.Idx → EReal) ?_
  funext a
  match a with
  | ⟨0, _⟩ => exact Fin.ext (by show win0_3.index t (0 : Fin 2) * 1024 + 1 * r.val = r.val; rw [e0]; omega)
  | ⟨1, _⟩ => exact Fin.ext (by show win0_3.index t (1 : Fin 2) * 1568 + 1 * k.val = k.val; rw [e1]; omega)

theorem bias_apply (c : Dev nD) (t : Fin cfg0.N) (r : Fin 8) (k : Fin 1024) :
    (blk0 V c 4 t : S8x1024.Idx → EReal) (ix2 r k) = (V c main_v46 : S8x1024.Idx → EReal) (ix2 r k) := by
  obtain ⟨-, -, -, -, e0, e1, -⟩ := idx0_facts t
  show (V c main_v46 : S8x1024.Idx → EReal) (((cfg0.win 4).blk t).view.emb (ix2 r k)) = _
  refine congrArg (V c main_v46 : S8x1024.Idx → EReal) ?_
  funext a
  match a with
  | ⟨0, _⟩ => exact Fin.ext (by show win0_4.index t (0 : Fin 2) * 8 + 1 * r.val = r.val; rw [e0]; omega)
  | ⟨1, _⟩ => exact Fin.ext (by show win0_4.index t (1 : Fin 2) * 1024 + 1 * k.val = k.val; rw [e1]; omega)

/-- Board `b`'s activation of unit `o`. -/
def actV (c : Dev nD) (b : Fin 16384) (o : Fin 1024) : EReal :=
  leaky (∑ j : Fin 640, hot (fun q u w => (V c main_arg0 : S16384x4x7x7.Idx → BitVec 32) (ix4 b q u w)) j * (vtAt V c : S1024x640.Idx → EReal) (ix2 o j)
    + (V c main_v46 : S8x1024.Idx → EReal) (ix2 (0 : Fin 8) o))

/-- A block's activations are its boards'. -/
theorem block_act (c : Dev nD) (t : Fin cfg0.N) (r k : Fin 1024) :
    fc1Act (F := Ideal) (blk0 V c 0 t) (blk0 V c 4 t) (vtAt V c) (ix2 r k)
      = actV V c (⟨t.val * 1024 + r.val, by have := lt16 t; omega⟩ : Fin 16384) k := by
  rw [fc1Act_apply]
  unfold actV
  rw [bias_apply]
  simp only [boards_apply]

/-- An index of the array is in a block when each coordinate is in the block's range. -/
theorem mem_block0_5 (t : Fin cfg0.N) (i : S16384x1024.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v47_0).slice (win0_5.rect t)).set ↔ _
  rw [View.set_slice_whole, Rect.mem_set_unit]
  exact Iff.rfl

/-- What the first call leaves in the array of activations. -/
theorem acts_final (c : Dev nD) : (dat0 V c).arrAt 5 cfg0.N = (fun i => actV V c (i 0) (i 1) : S16384x1024.Idx → EReal) := by
  refine (dat0 V c).arrAt_eq_of_cover 5 _ (fun t hf => ?_) (fun i => ?_)
  · show (cfg0.win 5).cut (grid0.coords t) ((dat0 V c).after 5 t) = _
    rw [after0_5]
    obtain ⟨-, -, -, -, -, -, e0, e1, -⟩ := idx0_facts t
    funext y
    have hy0 : (y 0).val < 1024 := (y 0).isLt
    have hy1 : (y 1).val < 1024 := (y 1).isLt
    have hx : (cfg0.win 5).xinj (grid0.coords t) y = ix2 (⟨(y 0).val, hy0⟩ : Fin 1024) (⟨(y 1).val, hy1⟩ : Fin 1024) := by
      funext a
      match a with
      | ⟨0, _⟩ => rfl
      | ⟨1, _⟩ => rfl
    show fc1Out (F := Ideal) (blk0 V c 0 t) (blk0 V c 4 t) (vtAt V c) ((cfg0.win 5).xinj (grid0.coords t) y)
      = actV V c (((cfg0.win 5).blk t).view.emb y 0) (((cfg0.win 5).blk t).view.emb y 1)
    rw [hx, fc1Out_apply, block_act]
    refine congrArg₂ (actV V c) (Fin.ext ?_) (Fin.ext ?_)
    · show t.val * 1024 + (y 0).val = win0_5.index t (0 : Fin 2) * 1024 + 1 * (y 0).val
      rw [e0]; omega
    · show (y 1).val = win0_5.index t (1 : Fin 2) * 1024 + 1 * (y 1).val
      rw [e1]; omega
  · have hi0 : (i 0).val < 16384 := (i 0).isLt
    have hi1 : (i 1).val < 1024 := (i 1).isLt
    have hlt : (i 0).val / 1024 < grid0.N := lt_of_lt_of_eq (by omega) N_0.symm
    obtain ⟨-, -, -, -, -, -, e0, e1, -⟩ := idx0_facts ⟨(i 0).val / 1024, hlt⟩
    refine ⟨⟨(i 0).val / 1024, hlt⟩, (by decide +kernel : ∀ t : Fin grid0.N, win0_5.flush t = true) _, ?_⟩
    refine (mem_block0_5 _ i).mpr fun a => ?_
    match a with
    | ⟨0, _⟩ =>
      show win0_5.index _ (0 : Fin 2) * 1024 ≤ (i 0).val ∧ (i 0).val < win0_5.index _ (0 : Fin 2) * 1024 + 1024
      rw [e0]; dsimp only; omega
    | ⟨1, _⟩ =>
      show win0_5.index _ (1 : Fin 2) * 1024 ≤ (i 1).val ∧ (i 1).val < win0_5.index _ (1 : Fin 2) * 1024 + 1024
      rw [e1]; omega

/-- An index of the array is in a block when each coordinate is in the block's range. -/
theorem mem_block0_6 (t : Fin cfg0.N) (i : S8x1024.Idx) :
    i ∈ ((cfg0.win 6).blk t).view.set ↔ ∀ a : Fin 2, win0_6.index t a * S8x1024.size a ≤ (i a).val ∧ (i a).val < win0_6.index t a * S8x1024.size a + S8x1024.size a := by
  show i ∈ ((View.whole main_v47_1).slice (win0_6.rect t)).set ↔ _
  rw [View.set_slice_whole, Rect.mem_set_unit]
  exact Iff.rfl

/-- What the first call leaves in the array of statistics: the statistics after the last block. -/
theorem stats_final (c : Dev nD) : (dat0 V c).arrAt 6 cfg0.N
    = (statsAt V c 15 (lt_of_lt_of_eq (by decide) N_0.symm) : S8x1024.Idx → EReal) := by
  refine (dat0 V c).arrAt_eq_of_cover 6 _ (fun t hf => ?_) (fun i => ?_)
  · show (cfg0.win 6).cut (grid0.coords t) ((dat0 V c).after 6 t) = _
    rw [after0_6]
    have ht : t = ⟨15, lt_of_lt_of_eq (by decide) N_0.symm⟩ := by
      have hm : t.val % 16 = 15 := (flush0_6 t).mp hf
      have := lt16 t
      exact Fin.ext (by show t.val = 15; omega)
    subst ht
    obtain ⟨-, -, -, -, -, -, -, -, e0, e1, -⟩ := idx0_facts ⟨15, lt_of_lt_of_eq (by decide) N_0.symm⟩
    funext y
    refine congrArg (statsAt V c 15 (lt_of_lt_of_eq (by decide) N_0.symm) : S8x1024.Idx → EReal) ?_
    funext a
    match a with
    | ⟨0, _⟩ => exact Fin.ext (by show (y 0).val = win0_6.index _ (0 : Fin 2) * 8 + 1 * (y 0).val; rw [e0]; omega)
    | ⟨1, _⟩ => exact Fin.ext (by show (y 1).val = win0_6.index _ (1 : Fin 2) * 1024 + 1 * (y 1).val; rw [e1]; omega)
  · have hi0 : (i 0).val < 8 := (i 0).isLt
    have hi1 : (i 1).val < 1024 := (i 1).isLt
    obtain ⟨-, -, -, -, -, -, -, -, e0, e1, -⟩ := idx0_facts ⟨15, lt_of_lt_of_eq (by decide) N_0.symm⟩
    refine ⟨⟨15, lt_of_lt_of_eq (by decide) N_0.symm⟩, (flush0_6 _).mpr rfl, ?_⟩
    refine (mem_block0_6 _ i).mpr fun a => ?_
    match a with
    | ⟨0, _⟩ =>
      show win0_6.index _ (0 : Fin 2) * 8 ≤ (i 0).val ∧ (i 0).val < win0_6.index _ (0 : Fin 2) * 8 + 8
      rw [e0]; omega
    | ⟨1, _⟩ =>
      show win0_6.index _ (1 : Fin 2) * 1024 ≤ (i 1).val ∧ (i 1).val < win0_6.index _ (1 : Fin 2) * 1024 + 1024
      rw [e1]; omega

/-- A function of the boards, continued by zero past the last. -/
def past (f : Fin 16384 → EReal) (i : ℕ) : EReal := if h : i < 16384 then f ⟨i, h⟩ else 0

theorem sum_past (f : Fin 16384 → EReal) : ∑ i ∈ Finset.range 16384, past f i = ∑ b, f b := by
  rw [← Fin.sum_univ_eq_sum_range]
  exact Finset.sum_congr rfl fun b _ => dif_pos b.isLt

theorem sum_block (f : Fin 16384 → EReal) (t : Fin cfg0.N) :
    ∑ r : Fin 1024, f ⟨t.val * 1024 + r.val, by have := lt16 t; omega⟩ = ∑ i ∈ Finset.range 1024, past f (t.val * 1024 + i) := by
  rw [← Fin.sum_univ_eq_sum_range (fun i => past f (t.val * 1024 + i)) 1024]
  refine Finset.sum_congr rfl fun r _ => ?_
  unfold past
  rw [dif_pos (by have := lt16 t; omega)]

/-- After point `n` the first row of the statistics is the sum over the boards so far. -/
theorem statsAt_row0 (c : Dev nD) (k : Fin 1024) (n : ℕ) (hn : n < cfg0.N) :
    (statsAt V c n hn : S8x1024.Idx → EReal) (ix2 (0 : Fin 8) k) = ∑ i ∈ Finset.range ((n + 1) * 1024), past (fun b => actV V c b k) i := by
  induction n with
  | zero =>
    show fc1Stats (F := Ideal) (blk0 V c 0 ⟨0, hn⟩) (blk0 V c 4 ⟨0, hn⟩) (vtAt V c) (k0_pay1 (F := Ideal)) (ix2 (0 : Fin 8) k) = _
    rw [stats_row0, zero_stats, zero_add, Finset.sum_congr rfl fun r _ => block_act V c ⟨0, hn⟩ r k,
      sum_block (fun b => actV V c b k) ⟨0, hn⟩]
    simp only [Nat.zero_mul, Nat.zero_add, Nat.one_mul]
  | succ n ih =>
    show fc1Stats (F := Ideal) (blk0 V c 0 ⟨n + 1, hn⟩) (blk0 V c 4 ⟨n + 1, hn⟩) (vtAt V c) (statsAt V c n (Nat.lt_of_succ_lt hn)) (ix2 (0 : Fin 8) k) = _
    rw [stats_row0, ih, Finset.sum_congr rfl fun r _ => block_act V c ⟨n + 1, hn⟩ r k,
      sum_block (fun b => actV V c b k) ⟨n + 1, hn⟩, Nat.succ_mul (n + 1) 1024, Finset.sum_range_add]

/-- After point `n` the second row of the statistics is the sum of the squares over the boards so far. -/
theorem statsAt_row1 (c : Dev nD) (k : Fin 1024) (n : ℕ) (hn : n < cfg0.N) :
    (statsAt V c n hn : S8x1024.Idx → EReal) (ix2 (1 : Fin 8) k)
      = ∑ i ∈ Finset.range ((n + 1) * 1024), past (fun b => actV V c b k * actV V c b k) i := by
  induction n with
  | zero =>
    show fc1Stats (F := Ideal) (blk0 V c 0 ⟨0, hn⟩) (blk0 V c 4 ⟨0, hn⟩) (vtAt V c) (k0_pay1 (F := Ideal)) (ix2 (1 : Fin 8) k) = _
    rw [stats_row1, zero_stats, zero_add]
    simp only [block_act]
    rw [sum_block (fun b => actV V c b k * actV V c b k) ⟨0, hn⟩]
    simp only [Nat.zero_mul, Nat.zero_add, Nat.one_mul]
  | succ n ih =>
    show fc1Stats (F := Ideal) (blk0 V c 0 ⟨n + 1, hn⟩) (blk0 V c 4 ⟨n + 1, hn⟩) (vtAt V c) (statsAt V c n (Nat.lt_of_succ_lt hn)) (ix2 (1 : Fin 8) k) = _
    rw [stats_row1, ih]
    simp only [block_act]
    rw [sum_block (fun b => actV V c b k * actV V c b k) ⟨n + 1, hn⟩, Nat.succ_mul (n + 1) 1024, Finset.sum_range_add]

/-- The statistics the first call leaves: the column sums of the activations. -/
theorem stats_sum (c : Dev nD) (k : Fin 1024) :
    (statsAt V c 15 (lt_of_lt_of_eq (by decide) N_0.symm) : S8x1024.Idx → EReal) (ix2 (0 : Fin 8) k) = ∑ b, actV V c b k :=
  (statsAt_row0 V c k 15 _).trans (sum_past _)

/-- The statistics the first call leaves: the column sums of the squares of the activations. -/
theorem stats_sumsq (c : Dev nD) (k : Fin 1024) :
    (statsAt V c 15 (lt_of_lt_of_eq (by decide) N_0.symm) : S8x1024.Idx → EReal) (ix2 (1 : Fin 8) k) = ∑ b, actV V c b k * actV V c b k :=
  (statsAt_row1 V c k 15 _).trans (sum_past _)

end Cert.KernelIdeal.Hand
-- ==== Proof.Arrays1.lean ====
module

public import proofs.«01_k».proof.Proof.Value0

@[expose] public section

set_option maxRecDepth 65536
set_option maxHeartbeats 1000000

noncomputable section

namespace Cert.KernelIdeal.Hand
open Cert.KernelIdeal Cert.KernelIdeal.Gen Cert.Value
open Idealize.ShloMosaic Idealize.ShloMosaic.TcCoe
open Idealize.ShloMosaic.Pipeline (Dat)

/-! # The second call at an index -/

theorem row1_apply (x : S8x1024.Idx → EReal) (k : Fin 1024) : row1 (F := Ideal) x (ix2 (0 : Fin 1) k) = x (ix2 (1 : Fin 8) k) := by
  refine congrArg x ?_
  funext a
  match a with
  | ⟨0, _⟩ => exact Fin.ext (by show 1 + 1 * 0 = 1; rfl)
  | ⟨1, _⟩ => exact Fin.ext (by show 0 + 1 * k.val = k.val; omega)

theorem row0'_apply (x : S8x512.Idx → EReal) (k : Fin 512) : row0' (F := Ideal) x (ix2 (0 : Fin 1) k) = x (ix2 (0 : Fin 8) k) := by
  refine congrArg x ?_
  funext a
  match a with
  | ⟨0, _⟩ => exact Fin.ext (by show 0 + 1 * 0 = 0; rfl)
  | ⟨1, _⟩ => exact Fin.ext (by show 0 + 1 * k.val = k.val; omega)

/-- An activation scaled and shifted by the coefficients that the statistics `s`, `q`, the gain `g` and the offset `β` give. -/
def scaled (h s q g β : EReal) : EReal :=
  h * (g * Ideal.rsqrt (q * Ideal.ofBits .f32 947912704#32 - s * Ideal.ofBits .f32 947912704#32 * (s * Ideal.ofBits .f32 947912704#32)
      + Ideal.ofBits .f32 925353388#32))
    + (β - s * Ideal.ofBits .f32 947912704#32 * (g * Ideal.rsqrt (q * Ideal.ofBits .f32 947912704#32
      - s * Ideal.ofBits .f32 947912704#32 * (s * Ideal.ofBits .f32 947912704#32) + Ideal.ofBits .f32 925353388#32)))

/-- A block of the second layer. -/
theorem fc2Out_apply (x0 : S2048x1024.Idx → EReal) (x1 x2 : S8x1024.Idx → EReal) (x4 : S8x512.Idx → EReal) (w : S512x1024.Idx → EReal)
    (r : Fin 2048) (o : Fin 512) :
    fc2Out (F := Ideal) x0 x1 x2 x4 w (ix2 r o)
      = leaky (∑ k : Fin 1024, scaled (x0 (ix2 r k)) (x1 (ix2 (0 : Fin 8) k)) (x1 (ix2 (1 : Fin 8) k)) (x2 (ix2 (0 : Fin 8) k)) (x2 (ix2 (1 : Fin 8) k)) * w (ix2 o k)
        + x4 (ix2 (0 : Fin 8) o)) := by
  have e0 := row0_apply x1
  have e1 := row1_apply x1
  have e2 := row0_apply x2
  have e3 := row1_apply x2
  have e4 := row0'_apply x4
  simp only [← e0, ← e1, ← e2, ← e3, ← e4]
  unfold fc2Out
  generalize row0 (F := Ideal) x1 = a0
  generalize row1 (F := Ideal) x1 = a1
  generalize row0 (F := Ideal) x2 = a2
  generalize row1 (F := Ideal) x2 = a3
  generalize row0' (F := Ideal) x4 = a4
  unfold k1_pay1 k1_pay3
  pointwise
  rfl

theorem weights2_id (x3 : S512x1024.Idx → EReal) (o : Fin 512) (k : Fin 1024) : k1_pay2 (F := Ideal) x3 (ix2 o k) = x3 (ix2 o k) := by
  unfold k1_pay2
  pointwise

/-! ## The array the second call leaves -/

variable (V : (c : Dev nD) → (b : Ref sig .tc) → Buf (Elt Ideal) ((c : Thread nD τ).loc b))

/-- Where each block of the second call begins. -/
theorem idx1_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem lt8 (t : Fin cfg1.N) : t.val < 8 := lt_of_lt_of_eq t.isLt (show cfg1.N = 8 from N_1)

theorem in_acts (c : Dev nD) (t : Fin cfg1.N) (r : Fin 2048) (k : Fin 1024) :
    (blk1 V c 0 t : S2048x1024.Idx → EReal) (ix2 r k) = (V c main_v47_0 : S16384x1024.Idx → EReal) (ix2 (⟨t.val * 2048 + r.val, by have := lt8 t; omega⟩ : Fin 16384) k) := by
  obtain ⟨e0, e1, -⟩ := idx1_facts t
  show (V c main_v47_0 : S16384x1024.Idx → EReal) (((cfg1.win 0).blk t).view.emb (ix2 r k)) = _
  refine congrArg (V c main_v47_0 : S16384x1024.Idx → EReal) ?_
  funext a
  match a with
  | ⟨0, _⟩ => exact Fin.ext (by show win1_0.index t (0 : Fin 2) * 2048 + 1 * r.val = t.val * 2048 + r.val; rw [e0]; omega)
  | ⟨1, _⟩ => exact Fin.ext (by show win1_0.index t (1 : Fin 2) * 1024 + 1 * k.val = k.val; rw [e1]; omega)

theorem in_stats (c : Dev nD) (t : Fin cfg1.N) (r : Fin 8) (k : Fin 1024) :
    (blk1 V c 1 t : S8x1024.Idx → EReal) (ix2 r k) = (V c main_v47_1 : S8x1024.Idx → EReal) (ix2 r k) := by
  obtain ⟨-, -, e0, e1, -⟩ := idx1_facts t
  show (V c main_v47_1 : S8x1024.Idx → EReal) (((cfg1.win 1).blk t).view.emb (ix2 r k)) = _
  refine congrArg (V c main_v47_1 : S8x1024.Idx → EReal) ?_
  funext a
  match a with
  | ⟨0, _⟩ => exact Fin.ext (by show win1_1.index t (0 : Fin 2) * 8 + 1 * r.val = r.val; rw [e0]; omega)
  | ⟨1, _⟩ => exact Fin.ext (by show win1_1.index t (1 : Fin 2) * 1024 + 1 * k.val = k.val; rw [e1]; omega)

theorem in_coeffs (c : Dev nD) (t : Fin cfg1.N) (r : Fin 8) (k : Fin 1024) :
    (blk1 V c 2 t : S8x1024.Idx → EReal) (ix2 r k) = (V c main_v51 : S8x1024.Idx → EReal) (ix2 r k) := by
  obtain ⟨-, -, -, -, e0, e1, -⟩ := idx1_facts t
  show (V c main_v51 : S8x1024.Idx → EReal) (((cfg1.win 2).blk t).view.emb (ix2 r k)) = _
  refine congrArg (V c main_v51 : S8x1024.Idx → EReal) ?_
  funext a
  match a with
  | ⟨0, _⟩ => exact Fin.ext (by show win1_2.index t (0 : Fin 2) * 8 + 1 * r.val = r.val; rw [e0]; omega)
  | ⟨1, _⟩ => exact Fin.ext (by show win1_2.index t (1 : Fin 2) * 1024 + 1 * k.val = k.val; rw [e1]; omega)

theorem in_weights (c : Dev nD) (t : Fin cfg1.N) (r : Fin 512) (k : Fin 1024) :
    (blk1 V c 3 t : S512x1024.Idx → EReal) (ix2 r k) = (V c main_arg9 : S512x1024.Idx → EReal) (ix2 r k) := by
  obtain ⟨-, -, -, -, -, -, e0, e1, -⟩ := idx1_facts t
  show (V c main_arg9 : S512x1024.Idx → EReal) (((cfg1.win 3).blk t).view.emb (ix2 r k)) = _
  refine congrArg (V c main_arg9 : S512x1024.Idx → EReal) ?_
  funext a
  match a with
  | ⟨0, _⟩ => exact Fin.ext (by show win1_3.index t (0 : Fin 2) * 512 + 1 * r.val = r.val; rw [e0]; omega)
  | ⟨1, _⟩ => exact Fin.ext (by show win1_3.index t (1 : Fin 2) * 1024 + 1 * k.val = k.val; rw [e1]; omega)

theorem in_bias (c : Dev nD) (t : Fin cfg1.N) (r : Fin 8) (k : Fin 512) :
    (blk1 V c 4 t : S8x512.Idx → EReal) (ix2 r k) = (V c main_v54 : S8x512.Idx → EReal) (ix2 r k) := by
  obtain ⟨-, -, -, -, -, -, -, -, e0, e1, -⟩ := idx1_facts t
  show (V c main_v54 : S8x512.Idx → EReal) (((cfg1.win 4).blk t).view.emb (ix2 r k)) = _
  refine congrArg (V c main_v54 : S8x512.Idx → EReal) ?_
  funext a
  match a with
  | ⟨0, _⟩ => exact Fin.ext (by show win1_4.index t (0 : Fin 2) * 8 + 1 * r.val = r.val; rw [e0]; omega)
  | ⟨1, _⟩ => exact Fin.ext (by show win1_4.index t (1 : Fin 2) * 512 + 1 * k.val = k.val; rw [e1]; omega)

/-- Entry `(b, o)` of the result, from the contents the second call is entered with. -/
def outV (c : Dev nD) (b : Fin 16384) (o : Fin 512) : EReal :=
  leaky (∑ k : Fin 1024, scaled ((V c main_v47_0 : S16384x1024.Idx → EReal) (ix2 b k)) ((V c main_v47_1 : S8x1024.Idx → EReal) (ix2 (0 : Fin 8) k))
      ((V c main_v47_1 : S8x1024.Idx → EReal) (ix2 (1 : Fin 8) k)) ((V c main_v51 : S8x1024.Idx → EReal) (ix2 (0 : Fin 8) k))
      ((V c main_v51 : S8x1024.Idx → EReal) (ix2 (1 : Fin 8) k)) * (V c main_arg9 : S512x1024.Idx → EReal) (ix2 o k)
    + (V c main_v54 : S8x512.Idx → EReal) (ix2 (0 : Fin 8) o))

theorem mem_block1_5 (t : Fin cfg1.N) (i : S16384x512.Idx) :
    i ∈ ((cfg1.win 5).blk t).view.set ↔ ∀ a : Fin 2, win1_5.index t a * S2048x512.size a ≤ (i a).val ∧ (i a).val < win1_5.index t a * S2048x512.size a + S2048x512.size a := by
  show i ∈ ((View.whole main_v55).slice (win1_5.rect t)).set ↔ _
  rw [View.set_slice_whole, Rect.mem_set_unit]
  exact Iff.rfl

/-- What the second call leaves in the result. -/
theorem out_final (c : Dev nD) : (dat1 V c).arrAt 5 cfg1.N = (fun i => outV V c (i 0) (i 1) : S16384x512.Idx → EReal) := by
  refine (dat1 V c).arrAt_eq_of_cover 5 _ (fun t hf => ?_) (fun i => ?_)
  · show (cfg1.win 5).cut (grid1.coords t) ((dat1 V c).after 5 t) = _
    rw [after1_5]
    obtain ⟨-, -, -, -, -, -, -, -, -, -, e0, e1⟩ := idx1_facts t
    funext y
    have hy0 : (y 0).val < 2048 := (y 0).isLt
    have hy1 : (y 1).val < 512 := (y 1).isLt
    have hx : (cfg1.win 5).xinj (grid1.coords t) y = ix2 (⟨(y 0).val, hy0⟩ : Fin 2048) (⟨(y 1).val, hy1⟩ : Fin 512) := by
      funext a
      match a with
      | ⟨0, _⟩ => rfl
      | ⟨1, _⟩ => rfl
    show fc2Out (F := Ideal) (blk1 V c 0 t) (blk1 V c 1 t) (blk1 V c 2 t) (blk1 V c 4 t) (k1_pay2 (F := Ideal) (blk1 V c 3 fst1)) ((cfg1.win 5).xinj (grid1.coords t) y)
      = outV V c (((cfg1.win 5).blk t).view.emb y 0) (((cfg1.win 5).blk t).view.emb y 1)
    rw [hx, fc2Out_apply, in_bias]
    simp only [in_acts, in_stats, in_coeffs, weights2_id, in_weights]
    refine congrArg₂ (outV V c) (Fin.ext ?_) (Fin.ext ?_)
    · show t.val * 2048 + (y 0).val = win1_5.index t (0 : Fin 2) * 2048 + 1 * (y 0).val
      rw [e0]; omega
    · show (y 1).val = win1_5.index t (1 : Fin 2) * 512 + 1 * (y 1).val
      rw [e1]; omega
  · have hi0 : (i 0).val < 16384 := (i 0).isLt
    have hi1 : (i 1).val < 512 := (i 1).isLt
    have hlt : (i 0).val / 2048 < grid1.N := lt_of_lt_of_eq (by omega) N_1.symm
    obtain ⟨-, -, -, -, -, -, -, -, -, -, e0, e1⟩ := idx1_facts ⟨(i 0).val / 2048, hlt⟩
    refine ⟨⟨(i 0).val / 2048, hlt⟩, (by decide +kernel : ∀ t : Fin grid1.N, win1_5.flush t = true) _, ?_⟩
    refine (mem_block1_5 _ i).mpr fun a => ?_
    match a with
    | ⟨0, _⟩ =>
      show win1_5.index _ (0 : Fin 2) * 2048 ≤ (i 0).val ∧ (i 0).val < win1_5.index _ (0 : Fin 2) * 2048 + 2048
      rw [e0]; dsimp only; omega
    | ⟨1, _⟩ =>
      show win1_5.index _ (1 : Fin 2) * 512 ≤ (i 1).val ∧ (i 1).val < win1_5.index _ (1 : Fin 2) * 512 + 512
      rw [e1]; omega

end Cert.KernelIdeal.Hand
-- ==== Proof.Select.lean ====
module

public import proofs.«01_k».proof.Proof.Value0
public import proofs.«01_k».proof.Proof.Math

@[expose] public section

set_option maxRecDepth 65536
set_option maxHeartbeats 1000000

noncomputable section

/-! The one-hot matrix of a board, times the folded table, picks out the board's features. -/

namespace Cert.KernelIdeal.Hand
open Cert.Value
open Idealize.ShloMosaic Idealize.ShloMosaic.TcCoe

/-- Four kinds of cell stay four kinds after the reordering. -/
theorem kindOf_lt (s : Nat) (h : s < 4) : kindOf s < 4 := by
  unfold kindOf; split <;> [omega; (split <;> omega)]

/-- Reordering twice gives the kind back. -/
theorem slot_kind (s : Nat) (h : s < 4) : slotOf (kindOf s) = s := by
  have : s = 0 ∨ s = 1 ∨ s = 2 ∨ s = 3 := by omega
  rcases this with rfl | rfl | rfl | rfl <;> simp [slotOf, kindOf]

/-- Reordering twice gives the slot back. -/
theorem kind_slot (q : Nat) (h : q < 4) : kindOf (slotOf q) = q := by
  have : q = 0 ∨ q = 1 ∨ q = 2 ∨ q = 3 := by omega
  rcases this with rfl | rfl | rfl | rfl <;> simp [slotOf, kindOf]

/-- Summing the one-hot row against the folded table leaves, for each feature, the table entry
    named by its cell. -/
theorem onehot_sum (y : Fin 4 → Fin 7 → Fin 7 → BitVec 32) (v : Fin 4 → Fin 7 → Fin 7 → Fin 3)
    (hy : ∀ q u w, y q u w = BitVec.ofNat 32 (v q u w).val)
    (T : Nat → Fin 3 → Fin 8 → EReal) (W : Fin 1568 → EReal) (g : Fin 1568 → Fin 640 → EReal)
    (hg : ∀ (d : Fin 1568) (k : Fin 640) (hk : k.val < 588), g d k =
      if d.val / 32 = k.val % 49 then
        T (k.val / 49 % 4) ⟨k.val / 196, by omega⟩ ⟨d.val / 4 % 8, by omega⟩
          * (if d.val % 4 = slotOf (k.val / 49 % 4) then 1 else 0)
      else 0) :
    ∑ k, hot y k * ∑ d, W d * g d k
      = ∑ d : Fin 1568, T (kindOf (d.val % 4))
          (v ⟨kindOf (d.val % 4), kindOf_lt _ (by omega)⟩ ⟨d.val / 224, by omega⟩
            ⟨d.val / 32 % 7, by omega⟩) ⟨d.val / 4 % 8, by omega⟩ * W d := by
  have hq : ∀ d : Fin 1568, kindOf (d.val % 4) < 4 := fun d => kindOf_lt _ (by omega)
  let vv : Fin 1568 → Fin 3 := fun d =>
    v ⟨kindOf (d.val % 4), hq d⟩ ⟨d.val / 224, by omega⟩ ⟨d.val / 32 % 7, by omega⟩
  let pick : Fin 1568 → Fin 640 := fun d =>
    ⟨(vv d).val * 196 + kindOf (d.val % 4) * 49 + d.val / 32, by
      have := (vv d).isLt; have := hq d; have := d.isLt; omega⟩
  have pv : ∀ d, (pick d).val = (vv d).val * 196 + kindOf (d.val % 4) * 49 + d.val / 32 :=
    fun d => rfl
  refine select_sum (hot y) W _ g pick ?_ ?_ ?_
  · intro k
    unfold hot
    split
    · split
      · exact Or.inr rfl
      · exact Or.inl rfl
    · exact Or.inl rfl
  · intro d k hne
    by_cases hk : k.val < 588
    · by_cases hc : y ⟨k.val / 49 % 4, by omega⟩ ⟨k.val / 7 % 7, by omega⟩ ⟨k.val % 7, by omega⟩
          = BitVec.ofNat 32 (k.val / 196)
      · right
        rw [hg d k hk]
        by_cases h1 : d.val / 32 = k.val % 49
        · by_cases h2 : d.val % 4 = slotOf (k.val / 49 % 4)
          · exfalso
            apply hne
            have h3 : kindOf (d.val % 4) = k.val / 49 % 4 := by
              rw [h2]; exact kind_slot _ (by omega)
            have e1 : (⟨k.val / 49 % 4, by omega⟩ : Fin 4) = ⟨kindOf (d.val % 4), hq d⟩ :=
              Fin.ext h3.symm
            have e2 : (⟨k.val / 7 % 7, by omega⟩ : Fin 7) = ⟨d.val / 224, by omega⟩ :=
              Fin.ext (by show k.val / 7 % 7 = d.val / 224; omega)
            have e3 : (⟨k.val % 7, by omega⟩ : Fin 7) = ⟨d.val / 32 % 7, by omega⟩ :=
              Fin.ext (by show k.val % 7 = d.val / 32 % 7; omega)
            rw [e1, e2, e3, hy] at hc
            have h4 : (vv d).val = k.val / 196 :=
              (ofNat_inj (by have := (vv d).isLt; omega) (by omega)).1 hc
            apply Fin.ext
            rw [pv, h4, h3]
            omega
          · rw [if_pos h1, if_neg h2, mul_zero]
        · rw [if_neg h1]
      · left
        unfold hot
        rw [if_pos hk, if_neg hc]
    · left
      unfold hot
      rw [if_neg hk]
  · intro d
    have hv := (vv d).isLt
    have hqd := hq d
    have hd := d.isLt
    have hk : (pick d).val < 588 := by rw [pv]; omega
    have a1 : (pick d).val / 196 = (vv d).val := by rw [pv]; omega
    have a2 : (pick d).val / 49 % 4 = kindOf (d.val % 4) := by rw [pv]; omega
    have a3 : (pick d).val % 49 = d.val / 32 := by rw [pv]; omega
    have a4 : (pick d).val / 7 % 7 = d.val / 224 := by rw [pv]; omega
    have a5 : (pick d).val % 7 = d.val / 32 % 7 := by rw [pv]; omega
    constructor
    · unfold hot
      rw [if_pos hk]
      refine if_pos ?_
      have e1 : (⟨(pick d).val / 49 % 4, by omega⟩ : Fin 4) = ⟨kindOf (d.val % 4), hq d⟩ :=
        Fin.ext a2
      have e2 : (⟨(pick d).val / 7 % 7, by omega⟩ : Fin 7) = ⟨d.val / 224, by omega⟩ := Fin.ext a4
      have e3 : (⟨(pick d).val % 7, by omega⟩ : Fin 7) = ⟨d.val / 32 % 7, by omega⟩ := Fin.ext a5
      rw [e1, e2, e3, hy, a1]
    · rw [hg d _ hk, if_pos a3.symm, if_pos (by rw [a2, slot_kind _ (by omega)]), mul_one, a2]
      exact congrArg (fun z => T (kindOf (d.val % 4)) z _) (Fin.ext a1)

end Cert.KernelIdeal.Hand
-- ==== Proof.Sides.lean ====
module

public import proofs.«01_k».proof.Proof.Host
public import proofs.«01_k».proof.Proof.Arrays0
public import proofs.«01_k».proof.Proof.Arrays1
public import proofs.«01_k».proof.Proof.Select

@[expose] public section

set_option maxRecDepth 65536
set_option maxHeartbeats 1000000

noncomputable section

/-! What the kernel leaves in its result, in terms of the arguments it was launched with. -/

namespace Cert.KernelIdeal.Hand
open Cert.KernelIdeal Cert.KernelIdeal.Gen Cert.Value
open Idealize.ShloMosaic Idealize.ShloMosaic.TcCoe

variable (m : (ℓ : Loc nD τ sig) → Buf (Elt Ideal) ℓ) (c : Dev nD)

/-- The arguments at launch. -/
abbrev A0 : S16384x4x7x7.Idx → BitVec 32 := m ((c : Thread nD τ).loc main_arg0)
abbrev A1 : S11x8.Idx → EReal := m ((c : Thread nD τ).loc main_arg1)
abbrev A2 : S6x8.Idx → EReal := m ((c : Thread nD τ).loc main_arg2)
abbrev A3 : S3x8.Idx → EReal := m ((c : Thread nD τ).loc main_arg3)
abbrev A4 : S4x8.Idx → EReal := m ((c : Thread nD τ).loc main_arg4)
abbrev A5 : S1024x1568.Idx → EReal := m ((c : Thread nD τ).loc main_arg5)
abbrev A6 : S1024.Idx → EReal := m ((c : Thread nD τ).loc main_arg6)
abbrev A7 : S1024.Idx → EReal := m ((c : Thread nD τ).loc main_arg7)
abbrev A8 : S1024.Idx → EReal := m ((c : Thread nD τ).loc main_arg8)
abbrev A9 : S512x1024.Idx → EReal := m ((c : Thread nD τ).loc main_arg9)
abbrev A10 : S512.Idx → EReal := m ((c : Thread nD τ).loc main_arg10)

/-- A feature of a board whose cell codes are `v`: the table entry its cell names. -/
def feature (v : Fin 4 → Fin 7 → Fin 7 → Fin 3) (d : Fin 1568) : EReal :=
  tabv (A1 m c) (A2 m c) (A3 m c) (A4 m c) (kindOf (d.val % 4))
    (v ⟨kindOf (d.val % 4), kindOf_lt _ (by omega)⟩ ⟨d.val / 224, by omega⟩ ⟨d.val / 32 % 7, by omega⟩).val
    (d.val / 4 % 8) (Fin.isLt _) (by omega)

/-- The expansion matrix at an index below the padding. -/
theorem expand_apply (d : Fin 1568) (k : Fin 640) (hk : k.val < 588) :
    gOf (F := Ideal) (blk0 (E15 m) c 1 fst0) (blk0 (E15 m) c 2 fst0) (ix2 d k) =
      if d.val / 32 = k.val % 49 then
        tabv (A1 m c) (A2 m c) (A3 m c) (A4 m c) (k.val / 49 % 4) (k.val / 196) (d.val / 4 % 8) (by omega) (by omega)
          * (if d.val % 4 = slotOf (k.val / 49 % 4) then 1 else 0)
      else 0 := by
  have hM := (pattern_apply (E15 m) c fst0 0 k).trans (pat_row0 m c k)
  rw [if_pos hk] at hM
  have hH := (pattern_apply (E15 m) c fst0 1 k).trans (pat_row1 m c k)
  rw [gOf_apply _ _ d k (k.val / 196 * 4 + k.val / 49 % 4) (k.val % 49) (by omega) (by omega) hM hH]
  by_cases h : d.val / 32 = k.val % 49
  · rw [if_pos h, if_pos h]
    refine (tables_apply (E15 m) c fst0 _ _).trans ?_
    refine (m2d_apply m c _ _ (by show k.val / 196 * 4 + k.val / 49 % 4 < 12; omega)).trans ?_
    have e1 : (k.val / 196 * 4 + k.val / 49 % 4) % 4 = k.val / 49 % 4 := by omega
    have e2 : (k.val / 196 * 4 + k.val / 49 % 4) / 4 = k.val / 196 := by omega
    have e3 : d.val % 32 / 4 = d.val / 4 % 8 := by omega
    have e4 : d.val % 32 % 4 = d.val % 4 := by omega
    simp only [e1, e2, e3, e4]
  · rw [if_neg h, if_neg h]

/-- An activation of the first layer, from the features of its board. -/
theorem actV_eq (b : Fin 16384) (o : Fin 1024) (v : Fin 4 → Fin 7 → Fin 7 → Fin 3)
    (hv : ∀ q u w, A0 m c (ix4 b q u w) = BitVec.ofNat 32 (v q u w).val) :
    actV (E15 m) c b o = leaky (∑ d : Fin 1568, feature m c v d * A5 m c (ix2 o d) + A6 m c (ix1 o)) := by
  have e0 : E15 m c main_arg0 = A0 m c := V15_kept m c main_arg0 (by decide)
  have e5 : E15 m c main_arg5 = A5 m c := V15_kept m c main_arg5 (by decide)
  unfold actV
  rw [e0]
  refine congrArg leaky (congrArg₂ (fun x y : EReal => x + y) ?_ (b1_row0 m c o))
  refine Eq.trans (Finset.sum_congr rfl fun k _ => ?_)
    (onehot_sum (fun q u w => A0 m c (ix4 b q u w)) v hv
      (fun q u e => tabv (A1 m c) (A2 m c) (A3 m c) (A4 m c) q u.val e.val u.isLt e.isLt)
      (fun d => A5 m c (ix2 o d))
      (fun d k => gOf (F := Ideal) (blk0 (E15 m) c 1 fst0) (blk0 (E15 m) c 2 fst0) (ix2 d k))
      (fun d k hk => expand_apply m c d k hk))
  refine congrArg (fun z => hot (fun q u w => A0 m c (ix4 b q u w)) k * z) ?_
  refine (vtOf_apply _ _ _ o k).trans (Finset.sum_congr rfl fun d _ => ?_)
  refine congrArg (fun z => z * gOf (F := Ideal) (blk0 (E15 m) c 1 fst0) (blk0 (E15 m) c 2 fst0) (ix2 d k)) ?_
  exact (weights_apply (E15 m) c fst0 o d).trans (congrFun e5 _)

/-- The kernel's result, from its activations. -/
theorem result_eq (b : Fin 16384) (o : Fin 512) :
    (X18 m c (Proc.devRef .tc main_v55) : S16384x512.Idx → EReal) (ix2 b o)
      = leaky (∑ k : Fin 1024, scaled (actV (E15 m) c b k) (∑ b', actV (E15 m) c b' k)
          (∑ b', actV (E15 m) c b' k * actV (E15 m) c b' k) (A7 m c (ix1 k)) (A8 m c (ix1 k)) * A9 m c (ix2 o k)
        + A10 m c (ix1 o)) := by
  have w0 : E17 m c main_v47_0 = (fun i => actV (E15 m) c (i 0) (i 1) : S16384x1024.Idx → EReal) :=
    (StableHlo.after_of_writes_sub hostOps1 _ hostOps1_writes (by decide)).trans
      ((X16_arr m c 5).trans (acts_final (E15 m) c))
  have w1 : E17 m c main_v47_1 = (statsAt (E15 m) c 15 (lt_of_lt_of_eq (by decide) N_0.symm) : S8x1024.Idx → EReal) :=
    (StableHlo.after_of_writes_sub hostOps1 _ hostOps1_writes (by decide)).trans
      ((X16_arr m c 6).trans (stats_final (E15 m) c))
  have w7 : X16 m c (Proc.devRef .tc main_arg7) = A7 m c :=
    (X16_of m c main_arg7 (by decide)).trans (V15_kept m c main_arg7 (by decide))
  have w8 : X16 m c (Proc.devRef .tc main_arg8) = A8 m c :=
    (X16_of m c main_arg8 (by decide)).trans (V15_kept m c main_arg8 (by decide))
  have w9 : E17 m c main_arg9 = A9 m c :=
    (StableHlo.after_of_writes_sub hostOps1 _ hostOps1_writes (by decide)).trans
      ((X16_of m c main_arg9 (by decide)).trans (V15_kept m c main_arg9 (by decide)))
  have w10 : X16 m c (Proc.devRef .tc main_arg10) = A10 m c :=
    (X16_of m c main_arg10 (by decide)).trans (V15_kept m c main_arg10 (by decide))
  refine (congrFun ((X18_arr m c 5).trans (out_final (E17 m) c)) (ix2 b o)).trans ?_
  show outV (E17 m) c b o = _
  unfold outV
  refine congrArg leaky (congrArg₂ (fun x y : EReal => x + y) (Finset.sum_congr rfl fun k _ => ?_)
    ((b2_row0 m c o).trans (congrFun w10 _)))
  rw [w0, w1, w9, stats_sum, stats_sumsq]
  rw [show (E17 m c main_v51 : S8x1024.Idx → EReal) (ix2 (0 : Fin 8) k) = A7 m c (ix1 k) from
      (gb_row0 m c k).trans (congrFun w7 _),
    show (E17 m c main_v51 : S8x1024.Idx → EReal) (ix2 (1 : Fin 8) k) = A8 m c (ix1 k) from
      (gb_row1 m c k).trans (congrFun w8 _)]
  rfl

end Cert.KernelIdeal.Hand
-- ==== Proof.Given.lean ====
module

public import proofs.«01_k».proof.Defs
public import proofs.«01_k».proof.Proof.Math
public import Idealize.ShloMosaic.Lib.Pointwise

@[expose] public section

set_option maxRecDepth 65536
set_option maxHeartbeats 1000000

noncomputable section

/-! What the stated precondition says about one launch: every board cell names one of three table
    rows, and every number that reaches the batch statistics is real. -/

namespace Cert.Given
open Cert.Pre_usable_inputs Cert.Value
open Idealize.ShloMosaic Idealize.ShloMosaic.TcCoe

/-- A cell code between zero and two is one of three numbers. -/
theorem code_of_and (x : BitVec 32)
    (h : IntOp.andi (IntOp.cmpi .sge x 0#32) (IntOp.cmpi .sle x 2#32) = 1#1) :
    ∃ v : Fin 3, x = BitVec.ofNat 32 v.val := by
  simp only [IntOp.andi, IntOp.cmpi] at h
  have h0 : (0#32).sle x = true := by
    by_contra hn
    rw [Bool.not_eq_true] at hn
    rw [hn] at h
    revert h
    cases x.sle 2#32 <;> decide
  have h2 : x.sle 2#32 = true := by
    by_contra hn
    rw [Bool.not_eq_true] at hn
    rw [hn, h0] at h
    exact absurd h (by decide)
  rw [BitVec.sle_iff_toInt_le] at h0 h2
  have e0 : (0#32).toInt = 0 := by decide
  have e2 : (2#32).toInt = 2 := by decide
  rw [e0] at h0
  rw [e2] at h2
  have hn := BitVec.toInt_eq_toNat_cond x
  have hlt : x.toNat < 3 := by
    have := x.isLt
    split at hn <;> omega
  exact ⟨⟨x.toNat, hlt⟩, by simp⟩

/-- A magnitude below the top number is that of a real. -/
theorem real_of_below (x : EReal)
    (h : BitVec.ofBool (decide (FloatOps.absf (F := Ideal) (φ := .f32) x < Ideal.ofBits FTy.f32 2139095040#32)) = 1#1) :
    IsReal x := by
  have ht : Ideal.ofBits FTy.f32 2139095040#32 = ⊤ := by
    simp [Ideal.ofBits, Ideal.ieee]
  rw [ht] at h
  refine isReal_of_abs (x := x) ?_
  by_contra hn
  have : decide (FloatOps.absf (F := Ideal) (φ := .f32) x < (⊤ : EReal)) = false := decide_eq_false hn
  rw [this] at h
  exact absurd h (by decide)

section
variable [Facts]
variable (x0 : S16384x4x7x7.Idx → BitVec 32) (x1 : S11x8.Idx → EReal) (x2 : S6x8.Idx → EReal)
  (x3 : S3x8.Idx → EReal) (x4 : S4x8.Idx → EReal) (x5 : S1024x1568.Idx → EReal)
  (x6 x7 x8 : S1024.Idx → EReal) (x9 : S512x1024.Idx → EReal) (x10 : S512.Idx → EReal)

/-- The eight tests of the precondition, all passed. -/
def Usable : Prop :=
  (fn (F := Ideal) x0 x1 x2 x3 x4 x5 x6 x7 x8 x9 x10).1 = (fun _ => 1#1)
  ∧ (fn (F := Ideal) x0 x1 x2 x3 x4 x5 x6 x7 x8 x9 x10).2.1 = (fun _ => 1#1)
  ∧ (fn (F := Ideal) x0 x1 x2 x3 x4 x5 x6 x7 x8 x9 x10).2.2.1 = (fun _ => 1#1)
  ∧ (fn (F := Ideal) x0 x1 x2 x3 x4 x5 x6 x7 x8 x9 x10).2.2.2.1 = (fun _ => 1#1)
  ∧ (fn (F := Ideal) x0 x1 x2 x3 x4 x5 x6 x7 x8 x9 x10).2.2.2.2.1 = (fun _ => 1#1)
  ∧ (fn (F := Ideal) x0 x1 x2 x3 x4 x5 x6 x7 x8 x9 x10).2.2.2.2.2.1 = (fun _ => 1#1)
  ∧ (fn (F := Ideal) x0 x1 x2 x3 x4 x5 x6 x7 x8 x9 x10).2.2.2.2.2.2.1 = (fun _ => 1#1)
  ∧ (fn (F := Ideal) x0 x1 x2 x3 x4 x5 x6 x7 x8 x9 x10).2.2.2.2.2.2.2 = (fun _ => 1#1)

variable {x0 x1 x2 x3 x4 x5 x6 x7 x8 x9 x10}
variable (h : Usable x0 x1 x2 x3 x4 x5 x6 x7 x8 x9 x10)
include h

theorem codes (b : Fin 16384) (q : Fin 4) (u w : Fin 7) :
    ∃ v : Fin 3, x0 (ix4 b q u w) = BitVec.ofNat 32 v.val := by
  have e := congrFun h.1 (ix4 b q u w)
  refine code_of_and _ (Eq.trans ?_ e)
  unfold fn fn_part1
  dsimp only
  pointwise

theorem real1 (v : Fin 3) (e : Fin 8) : IsReal (x1 (ix2 ⟨v.val, by omega⟩ e)) := by
  have e := congrFun h.2.1 (ix2 v e)
  refine real_of_below _ (Eq.trans ?_ e)
  unfold fn fn_part1
  dsimp only
  pointwise

theorem real2 (v : Fin 3) (e : Fin 8) : IsReal (x2 (ix2 ⟨v.val, by omega⟩ e)) := by
  have e := congrFun h.2.2.1 (ix2 v e)
  refine real_of_below _ (Eq.trans ?_ e)
  unfold fn fn_part1
  dsimp only
  pointwise

theorem real3 (v : Fin 3) (e : Fin 8) : IsReal (x3 (ix2 v e)) := by
  have e := congrFun h.2.2.2.1 (ix2 v e)
  refine real_of_below _ (Eq.trans ?_ e)
  unfold fn fn_part1
  dsimp only
  pointwise

theorem real4 (v : Fin 3) (e : Fin 8) : IsReal (x4 (ix2 ⟨v.val, by omega⟩ e)) := by
  have e := congrFun h.2.2.2.2.1 (ix2 v e)
  refine real_of_below _ (Eq.trans ?_ e)
  unfold fn fn_part1
  dsimp only
  pointwise

theorem real5 (o : Fin 1024) (d : Fin 1568) : IsReal (x5 (ix2 o d)) := by
  have e := congrFun h.2.2.2.2.2.1 (ix2 o d)
  refine real_of_below _ (Eq.trans ?_ e)
  unfold fn fn_part1
  dsimp only
  pointwise

theorem real6 (o : Fin 1024) : IsReal (x6 (ix1 o)) := by
  have e := congrFun h.2.2.2.2.2.2.1 (ix1 o)
  refine real_of_below _ (Eq.trans ?_ e)
  unfold fn fn_part1
  dsimp only
  pointwise

theorem real7 (o : Fin 1024) : IsReal (x7 (ix1 o)) := by
  have e := congrFun h.2.2.2.2.2.2.2 (ix1 o)
  refine real_of_below _ (Eq.trans ?_ e)
  unfold fn fn_part1
  dsimp only
  pointwise

/-- Every table entry a board can name is real. -/
theorem real_table (q : Nat) (v : Nat) (e : Nat) (hv : v < 3) (he : e < 8) :
    IsReal (tabv x1 x2 x3 x4 q v e hv he) := by
  unfold tabv
  split
  · exact real1 h ⟨v, hv⟩ ⟨e, he⟩
  split
  · exact real2 h ⟨v, hv⟩ ⟨e, he⟩
  split
  · exact real3 h ⟨v, hv⟩ ⟨e, he⟩
  · exact real4 h ⟨v, hv⟩ ⟨e, he⟩
end

end Cert.Given
-- ==== Proof.Ref.lean ====
module

public import proofs.«01_k».proof.Proof.Gen.ReferenceIdeal.Run
public import proofs.«01_k».proof.Proof.Gen.ReferenceIdeal.Read
public import proofs.«01_k».proof.Proof.Math

@[expose] public section

set_option maxRecDepth 65536
set_option maxHeartbeats 1000000

noncomputable section

namespace Cert.ReferenceIdeal.Read
open Cert.ReferenceIdeal Cert.ReferenceIdeal.Gen Cert.Value
open Idealize.ShloMosaic Idealize.ShloMosaic.TcCoe

/-! # The reference at an index -/

variable (x0 : S16384x4x7x7.Idx → BitVec 32) (x1 : S11x8.Idx → EReal) (x2 : S6x8.Idx → EReal) (x3 : S3x8.Idx → EReal) (x4 : S4x8.Idx → EReal)
 (x5 : S1024x1568.Idx → EReal) (x6 x7 x8 : S1024.Idx → EReal) (x9 : S512x1024.Idx → EReal) (x10 : S512.Idx → EReal)

/-- The first layer's activation. -/
theorem act_apply (b : Fin 16384) (o : Fin 1024) : val_main_v27 (F := Ideal) x0 x1 x2 x3 x4 x5 x6 (ix2 b o)
    = leaky (∑ d : Fin 1568, val_main_v17 (F := Ideal) x0 x1 x2 x3 x4 (ix2 b d) * x5 (ix2 o d) + x6 (ix1 o)) := by
  unfold val_main_v27 val_main_v26 val_main_v25 val_main_v24 val_main_v23 val_main_v22 val_main_v21 val_main_v20 val_main_v19 val_main_v18 val_main_cst val_main_cst_0
  generalize val_main_v17 (F := Ideal) x0 x1 x2 x3 x4 = e
  pointwise
  rfl

/-- The result, from the activations. -/
theorem out_apply (b : Fin 16384) (o : Fin 512) : val_main_v62 (F := Ideal) x0 x1 x2 x3 x4 x5 x6 x7 x8 x9 x10 (ix2 b o)
    = leaky (∑ x : Fin 1024, (Ideal.div (val_main_v27 (F := Ideal) x0 x1 x2 x3 x4 x5 x6 (ix2 b x) - Ideal.div (∑ b' : Fin 16384, val_main_v27 (F := Ideal) x0 x1 x2 x3 x4 x5 x6 (ix2 b' x)) (Ideal.ofBits .f32 1182793728#32))
        (Ideal.sqrt (Ideal.div (∑ b' : Fin 16384, (val_main_v27 (F := Ideal) x0 x1 x2 x3 x4 x5 x6 (ix2 b' x) - Ideal.div (∑ b' : Fin 16384, val_main_v27 (F := Ideal) x0 x1 x2 x3 x4 x5 x6 (ix2 b' x)) (Ideal.ofBits .f32 1182793728#32))
            * (val_main_v27 (F := Ideal) x0 x1 x2 x3 x4 x5 x6 (ix2 b' x) - Ideal.div (∑ b' : Fin 16384, val_main_v27 (F := Ideal) x0 x1 x2 x3 x4 x5 x6 (ix2 b' x)) (Ideal.ofBits .f32 1182793728#32))) (Ideal.ofBits .f32 1182793728#32)
          + Ideal.ofBits .f32 925353388#32)) * x7 (ix1 x) + x8 (ix1 x)) * x9 (ix2 o x) + x10 (ix1 o)) := by
  unfold val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_cst_1 val_main_cst_2 val_main_cst_3 val_main_cst_4 val_main_cst_5 val_main_cst_6 val_main_cst_7
  generalize val_main_v27 (F := Ideal) x0 x1 x2 x3 x4 x5 x6 = a
  pointwise
  rfl

/-- The dimension numbers of a lookup of rows of an 8-column table at one index per cell. -/
abbrev rowDims (N : Nat) (wf : GatherDims.WF ⟨2, ![N, 8]⟩ S16384x7x7x1 S16384x7x7x8 [3] [0] [] [0] [] 3 ![1, 8]) :
    GatherDims ⟨2, ![N, 8]⟩ S16384x7x7x1 S16384x7x7x8 where
  offsetDims := [3]
  collapsedSliceDims := [0]
  operandBatchingDims := []
  startIndicesBatchingDims := []
  startIndexMap := [0]
  indexVectorDim := 3
  sliceSizes := ![1, 8]
  wf := wf

/-- A lookup at an index in range reads that row. -/
theorem row_apply {N : Nat} (wf : GatherDims.WF ⟨2, ![N, 8]⟩ S16384x7x7x1 S16384x7x7x8 [3] [0] [] [0] [] 3 ![1, 8])
    (x : (⟨2, ![N, 8]⟩ : Shape).Idx → EReal) (idx : IVec S16384x7x7x1 32) (b : Fin 16384) (p q : Fin 7) (e : Fin 8)
    (v : Nat) (hv : v < N) (h3 : v < 3) (h : idx (ix4 b p q (0 : Fin 1)) = BitVec.ofNat 32 v) :
    Host.gather (rowDims N wf) x idx (ix4 b p q e) = x (ix2 (⟨v, hv⟩ : Fin N) e) := by
  unfold Host.gather
  congr 1
  funext a
  refine Fin.ext ?_
  show (rowDims N wf).start (ix4 b p q e) idx a + (rowDims N wf).batchCoord (ix4 b p q e) a
      + (rowDims N wf).offCoord (ix4 b p q e) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N wf).startIndexMap from List.mem_singleton.mpr rfl)]
    have hsi : (rowDims N wf).siIdx (ix4 b p q e) ⟨List.idxOf (0 : Fin 2) (rowDims N wf).startIndexMap,
        List.idxOf_lt_length_iff.2 (List.mem_singleton.mpr rfl)⟩ = ix4 b p q (0 : Fin 1) := by
      funext b; refine Fin.ext ?_
      match b with
      | ⟨0, _⟩ => rfl
      | ⟨1, _⟩ => rfl
      | ⟨2, _⟩ => rfl
      | ⟨3, _⟩ => rfl
    rw [hsi, h]
    have hi : (BitVec.ofNat 32 v).toInt.toNat = v := by
      obtain rfl | rfl | rfl : v = 0 ∨ v = 1 ∨ v = 2 := by omega
      all_goals decide
    rw [hi]
    show min v (N - 1) = v
    omega
  · rw [GatherDims.batchCoord_eq_zero _ _ _ (fun h => by simp at h)]
    unfold GatherDims.start
    rw [dif_neg (show (1 : Fin 2) ∉ (rowDims N wf).startIndexMap by simp)]
    simp only [Nat.zero_add, Nat.add_zero]
    rfl

theorem select_of_one (u : BitVec 1) (w z : EReal) (h : u = 1#1) : Scalar.select u w z = w := by
  subst h
  rfl

/-- The object features of a cell. -/
theorem objects (b : Fin 16384) (p q : Fin 7) (e : Fin 8) (v : Nat) (hv : v < 3) (h : x0 (ix4 b (0 : Fin 4) p q) = BitVec.ofNat 32 v) :
    val_main_v2 (F := Ideal) x0 x1 (ix4 b p q e) = x1 (ix2 (⟨v, by omega⟩ : Fin 11) e) := by
  unfold val_main_v2 val_main_call0_v15 val_main_call0_v14 val_main_call0_v13 val_main_call0_v12 val_main_call0_v11 val_main_call0_v10 val_main_call0_v9 val_main_call0_v8 val_main_call0_v7 val_main_call0_v6 val_main_call0_v5 val_main_call0_v4 val_main_call0_v3 val_main_call0_v2 val_main_call0_v1 val_main_call0_v0 val_main_call0_c val_main_call0_c_0 val_main_call0_c_1 val_main_call0_c_2 val_main_call0_c_3 val_main_call0_cst val_main_v1 val_main_v0
  have hg := fun idx => row_apply gather_S11x8_S16384x7x7x1_S16384x7x7x8_3_0_n_n_0_3_18_wf x1 idx b p q e v (by omega) hv
  pointwise
  refine (select_of_one _ _ _ ?_).trans (hg _ ?_)
  · rw [h]
    obtain rfl | rfl | rfl : v = 0 ∨ v = 1 ∨ v = 2 := by omega
    all_goals decide
  · pointwise
    rw [h]
    obtain rfl | rfl | rfl : v = 0 ∨ v = 1 ∨ v = 2 := by omega
    all_goals decide

/-- The colour features of a cell. -/
theorem colours (b : Fin 16384) (p q : Fin 7) (e : Fin 8) (v : Nat) (hv : v < 3) (h : x0 (ix4 b (1 : Fin 4) p q) = BitVec.ofNat 32 v) :
    val_main_v5 (F := Ideal) x0 x2 (ix4 b p q e) = x2 (ix2 (⟨v, by omega⟩ : Fin 6) e) := by
  unfold val_main_v5 val_main_call1_v15 val_main_call1_v14 val_main_call1_v13 val_main_call1_v12 val_main_call1_v11 val_main_call1_v10 val_main_call1_v9 val_main_call1_v8 val_main_call1_v7 val_main_call1_v6 val_main_call1_v5 val_main_call1_v4 val_main_call1_v3 val_main_call1_v2 val_main_call1_v1 val_main_call1_v0 val_main_call1_c val_main_call1_c_0 val_main_call1_c_1 val_main_call1_c_2 val_main_call1_c_3 val_main_call1_cst val_main_v4 val_main_v3
  have hg := fun idx => row_apply gather_S6x8_S16384x7x7x1_S16384x7x7x8_3_0_n_n_0_3_18_wf x2 idx b p q e v (by omega) hv
  pointwise
  refine (select_of_one _ _ _ ?_).trans (hg _ ?_)
  · rw [h]
    obtain rfl | rfl | rfl : v = 0 ∨ v = 1 ∨ v = 2 := by omega
    all_goals decide
  · pointwise
    rw [h]
    obtain rfl | rfl | rfl : v = 0 ∨ v = 1 ∨ v = 2 := by omega
    all_goals decide

/-- The state features of a cell. -/
theorem states (b : Fin 16384) (p q : Fin 7) (e : Fin 8) (v : Nat) (hv : v < 3) (h : x0 (ix4 b (2 : Fin 4) p q) = BitVec.ofNat 32 v) :
    val_main_v8 (F := Ideal) x0 x3 (ix4 b p q e) = x3 (ix2 (⟨v, by omega⟩ : Fin 3) e) := by
  unfold val_main_v8 val_main_call2_v15 val_main_call2_v14 val_main_call2_v13 val_main_call2_v12 val_main_call2_v11 val_main_call2_v10 val_main_call2_v9 val_main_call2_v8 val_main_call2_v7 val_main_call2_v6 val_main_call2_v5 val_main_call2_v4 val_main_call2_v3 val_main_call2_v2 val_main_call2_v1 val_main_call2_v0 val_main_call2_c val_main_call2_c_0 val_main_call2_c_1 val_main_call2_c_2 val_main_call2_c_3 val_main_call2_cst val_main_v7 val_main_v6
  have hg := fun idx => row_apply gather_S3x8_S16384x7x7x1_S16384x7x7x8_3_0_n_n_0_3_18_wf x3 idx b p q e v (by omega) hv
  pointwise
  refine (select_of_one _ _ _ ?_).trans (hg _ ?_)
  · rw [h]
    obtain rfl | rfl | rfl : v = 0 ∨ v = 1 ∨ v = 2 := by omega
    all_goals decide
  · pointwise
    rw [h]
    obtain rfl | rfl | rfl : v = 0 ∨ v = 1 ∨ v = 2 := by omega
    all_goals decide

/-- The orientation features of a cell. -/
theorem orients (b : Fin 16384) (p q : Fin 7) (e : Fin 8) (v : Nat) (hv : v < 3) (h : x0 (ix4 b (3 : Fin 4) p q) = BitVec.ofNat 32 v) :
    val_main_v11 (F := Ideal) x0 x4 (ix4 b p q e) = x4 (ix2 (⟨v, by omega⟩ : Fin 4) e) := by
  unfold val_main_v11 val_main_call3_v15 val_main_call3_v14 val_main_call3_v13 val_main_call3_v12 val_main_call3_v11 val_main_call3_v10 val_main_call3_v9 val_main_call3_v8 val_main_call3_v7 val_main_call3_v6 val_main_call3_v5 val_main_call3_v4 val_main_call3_v3 val_main_call3_v2 val_main_call3_v1 val_main_call3_v0 val_main_call3_c val_main_call3_c_0 val_main_call3_c_1 val_main_call3_c_2 val_main_call3_c_3 val_main_call3_cst val_main_v10 val_main_v9
  have hg := fun idx => row_apply gather_S4x8_S16384x7x7x1_S16384x7x7x8_3_0_n_n_0_3_18_wf x4 idx b p q e v (by omega) hv
  pointwise
  refine (select_of_one _ _ _ ?_).trans (hg _ ?_)
  · rw [h]
    obtain rfl | rfl | rfl : v = 0 ∨ v = 1 ∨ v = 2 := by omega
    all_goals decide
  · pointwise
    rw [h]
    obtain rfl | rfl | rfl : v = 0 ∨ v = 1 ∨ v = 2 := by omega
    all_goals decide

/-- The features of a board, flattened: a row of the embedding table of the feature kind the place asks for. -/
theorem feature_apply (b : Fin 16384) (d : Fin 1568) (hk : kindOf (d.val % 4) < 4) (v : Nat) (hv : v < 3)
    (h : x0 (ix4 b (⟨kindOf (d.val % 4), hk⟩ : Fin 4) (⟨d.val / 224, by omega⟩ : Fin 7) (⟨d.val / 32 % 7, by omega⟩ : Fin 7)) = BitVec.ofNat 32 v) :
    val_main_v17 (F := Ideal) x0 x1 x2 x3 x4 (ix2 b d) = tabv x1 x2 x3 x4 (kindOf (d.val % 4)) v (d.val / 4 % 8) hv (by omega) := by
  have h1 := colours x0 x2 b ⟨d.val / 224, by omega⟩ ⟨d.val / 32 % 7, by omega⟩ ⟨d.val / 4 % 8, by omega⟩ v hv
  have h0 := objects x0 x1 b ⟨d.val / 224, by omega⟩ ⟨d.val / 32 % 7, by omega⟩ ⟨d.val / 4 % 8, by omega⟩ v hv
  have h2 := states x0 x3 b ⟨d.val / 224, by omega⟩ ⟨d.val / 32 % 7, by omega⟩ ⟨d.val / 4 % 8, by omega⟩ v hv
  have h3 := orients x0 x4 b ⟨d.val / 224, by omega⟩ ⟨d.val / 32 % 7, by omega⟩ ⟨d.val / 4 % 8, by omega⟩ v hv
  unfold val_main_v17 val_main_v16 val_main_v15 val_main_v14 val_main_v13 val_main_v12
  generalize val_main_v2 (F := Ideal) x0 x1 = y1 at h0 ⊢
  generalize val_main_v5 (F := Ideal) x0 x2 = y2 at h1 ⊢
  generalize val_main_v8 (F := Ideal) x0 x3 = y3 at h2 ⊢
  generalize val_main_v11 (F := Ideal) x0 x4 = y4 at h3 ⊢
  pointwise
  obtain hd | hd | hd | hd : d.val % 4 = 0 ∨ d.val % 4 = 1 ∨ d.val % 4 = 2 ∨ d.val % 4 = 3 := by omega
  · simp only [hd] at h ⊢
    exact h1 h
  · simp only [hd] at h ⊢
    exact h0 h
  · simp only [hd] at h ⊢
    exact h2 h
  · simp only [hd] at h ⊢
    exact h3 h

end Cert.ReferenceIdeal.Read
-- ==== Proof.Equal.lean ====
module

public import proofs.«01_k».proof.Proof.Sides
public import proofs.«01_k».proof.Proof.Given
public import proofs.«01_k».proof.Proof.Ref
public import proofs.«01_k».proof.Proof.Frames

@[expose] public section

set_option maxRecDepth 65536
set_option maxHeartbeats 1000000

noncomputable section

/-! The kernel's result is the reference's, element by element, on usable inputs. -/

namespace Cert.Proof
open Cert.Value Cert.Given Cert.KernelIdeal.Hand
open Idealize.ShloMosaic Idealize.ShloMosaic.TcCoe Idealize.SL.Sem
open Cert.KernelIdeal (nD τ sig)

section
variable [hF : Cert.Pre_usable_inputs.Facts]
variable (m : (ℓ : Loc nD τ sig) → Buf (Elt Ideal) ℓ) (c : Dev nD)
variable (h : Usable (A0 m c) (A1 m c) (A2 m c) (A3 m c) (A4 m c) (A5 m c) (A6 m c) (A7 m c) (A8 m c) (A9 m c) (A10 m c))
include h

/-- The two first layers agree, and what they hold is real. -/
theorem acts_agree (b : Fin 16384) (o : Fin 1024) :
    actV (E15 m) c b o = Cert.ReferenceIdeal.Read.val_main_v27 (F := Ideal) (A0 m c) (A1 m c) (A2 m c) (A3 m c)
        (A4 m c) (A5 m c) (A6 m c) (ix2 b o)
      ∧ IsReal (actV (E15 m) c b o) := by
  choose v hv using fun q u w => codes h b q u w
  rw [actV_eq m c b o v hv]
  constructor
  · refine Eq.trans ?_ (Cert.ReferenceIdeal.Read.act_apply _ _ _ _ _ _ _ b o).symm
    refine congrArg leaky (congrArg (fun x : EReal => x + A6 m c (ix1 o)) (Finset.sum_congr rfl fun d _ => ?_))
    refine congrArg (fun x : EReal => x * A5 m c (ix2 o d)) ?_
    exact (Cert.ReferenceIdeal.Read.feature_apply _ _ _ _ _ b d (kindOf_lt _ (by omega)) _ (Fin.isLt _) (hv _ _ _)).symm
  · refine IsReal.leaky (IsReal.add (IsReal.sum _ _ fun d => IsReal.mul ?_ (real5 h o d)) (real6 h o))
    exact real_table h _ _ _ _ _

/-- The results agree. -/
theorem results_agree :
    (X18 m c (Proc.devRef .tc Cert.KernelIdeal.main_v55) : Cert.KernelIdeal.S16384x512.Idx → EReal)
      = Cert.ReferenceIdeal.Read.val_main_v62 (F := Ideal) (A0 m c) (A1 m c) (A2 m c) (A3 m c) (A4 m c) (A5 m c)
          (A6 m c) (A7 m c) (A8 m c) (A9 m c) (A10 m c) := by
  funext i
  obtain ⟨b, o, rfl⟩ : ∃ (b : Fin 16384) (o : Fin 512), i = ix2 b o := ⟨i 0, i 1, ValueIdx.eq_ix2 i⟩
  refine (result_eq m c b o).trans (Eq.trans ?_ (Cert.ReferenceIdeal.Read.out_apply _ _ _ _ _ _ _ _ _ _ _ b o).symm)
  refine congrArg leaky (congrArg (fun x : EReal => x + A10 m c (ix1 o)) (Finset.sum_congr rfl fun k _ => ?_))
  refine congrArg (fun x : EReal => x * A9 m c (ix2 o k)) ?_
  have e : ∀ b', Cert.ReferenceIdeal.Read.val_main_v27 (F := Ideal) (A0 m c) (A1 m c) (A2 m c) (A3 m c)
      (A4 m c) (A5 m c) (A6 m c) (ix2 b' k) = actV (E15 m) c b' k := fun b' => (acts_agree m c h b' k).1.symm
  simp only [e]
  exact norm_eq (fun b' => actV (E15 m) c b' k) (A7 m c (ix1 k)) (A8 m c (ix1 k)) b
    (fun b' => (acts_agree m c h b' k).2) (real7 h k)
end

/-- On usable inputs the kernel and the reference, over the reals, leave one and the same result. -/
theorem algebraic : Cert.algebraic_KernelIdeal_ReferenceIdeal_pre_usable_inputs
    (hKernelIdeal := Cert.KernelIdeal.Gen.facts) (hReferenceIdeal := Cert.ReferenceIdeal.Gen.facts)
    (hPre_usable_inputs := preFacts) := by
  intro m g m' g' hpre hargs
  refine ⟨fun c => X18 m c (Proc.devRef .tc Cert.KernelIdeal.main_v55), ?_, ?_⟩
  · exact (θ_run _ _ _).mono (fun _ h => h.1) (Cert.KernelIdeal.Hand.run_results (F := Ideal) m g)
  · refine (θ_run _ _ _).mono (fun r h c => ⟨?_, (h c).2⟩) (Cert.ReferenceIdeal.Value.run (F := Ideal) m' g')
    refine (h c).1.trans ((Cert.ReferenceIdeal.Read.val_main_v62_eq _).trans ?_)
    refine Eq.trans ?_ (results_agree (hF := preFacts) m c (hpre c)).symm
    obtain ⟨a0, a1, a2, a3, a4, a5, a6, a7, a8, a9, a10⟩ := hargs c
    show Cert.ReferenceIdeal.Read.val_main_v62 (F := Ideal)
      (m' ((c.tc : Thread _ _).loc Cert.ReferenceIdeal.main_arg0)) (m' ((c.tc : Thread _ _).loc Cert.ReferenceIdeal.main_arg1))
      (m' ((c.tc : Thread _ _).loc Cert.ReferenceIdeal.main_arg2)) (m' ((c.tc : Thread _ _).loc Cert.ReferenceIdeal.main_arg3))
      (m' ((c.tc : Thread _ _).loc Cert.ReferenceIdeal.main_arg4)) (m' ((c.tc : Thread _ _).loc Cert.ReferenceIdeal.main_arg5))
      (m' ((c.tc : Thread _ _).loc Cert.ReferenceIdeal.main_arg6)) (m' ((c.tc : Thread _ _).loc Cert.ReferenceIdeal.main_arg7))
      (m' ((c.tc : Thread _ _).loc Cert.ReferenceIdeal.main_arg8)) (m' ((c.tc : Thread _ _).loc Cert.ReferenceIdeal.main_arg9))
      (m' ((c.tc : Thread _ _).loc Cert.ReferenceIdeal.main_arg10)) = _
    rw [a0, a1, a2, a3, a4, a5, a6, a7, a8, a9, a10]

end Cert.Proof
-- ==== Proof.lean ====
/- The proof of the claims: every program ends, leaves its arguments and counters as it should, the kernel over the reals is
   the compiled kernel's text, and on usable inputs it leaves the reference's result. -/
module

public import proofs.«01_k».proof.Proof.Gen.ReferenceIdeal.Run
public import proofs.«01_k».proof.Proof.Gen.ReferenceIdeal.Read
public import proofs.«01_k».proof.Defs
public import proofs.«01_k».proof.Proof.Frames
public import proofs.«01_k».proof.Proof.Equal

@[expose] public section

noncomputable section

namespace Cert.Proof

/-- The claims, assembled. -/
theorem claim : Cert.Claim := ⟨Cert.Kernel.Gen.facts, Cert.KernelIdeal.Gen.facts, Cert.ReferenceIdeal.Gen.facts, preFacts,
  frame_kernel, frame_kernelIdeal, frame_kernelIdeal_pre, frame_reference, frame_reference_pre, trivial, algebraic⟩

end Cert.Proof

end
